-- ==== Defs.lean ====
def Pre_Kernel [hPre_sorted_segments : Cert.Pre_sorted_segments.Facts] (m : (ℓ : Loc Cert.Kernel.nD Cert.Kernel.τ Cert.Kernel.sig) → Buf (Elt Bits) ℓ) : Prop :=
  ∀ c : Dev Cert.Kernel.nD,
    (Cert.Pre_sorted_segments.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_segments : Cert.Pre_sorted_segments.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_segments [hPre_sorted_segments : Cert.Pre_sorted_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_segments : Cert.Pre_sorted_segments.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_segments [hReferenceIdeal : Cert.ReferenceIdeal.Facts] [hPre_sorted_segments : Cert.Pre_sorted_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_segments : Cert.Pre_sorted_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_segments : Cert.Pre_sorted_segments.Facts),
    quiescent_Kernel (hKernel := hKernel) (hPre_sorted_segments := hPre_sorted_segments)
    ∧ quiescent_KernelIdeal (hKernelIdeal := hKernelIdeal) (hPre_sorted_segments := hPre_sorted_segments)
    ∧ quiescent_ReferenceIdeal (hReferenceIdeal := hReferenceIdeal)
    ∧ quiescent_ReferenceIdeal_pre_sorted_segments (hReferenceIdeal := hReferenceIdeal) (hPre_sorted_segments := hPre_sorted_segments)
    ∧ preserves_Kernel_KernelIdeal
    ∧ algebraic_KernelIdeal_ReferenceIdeal (hKernelIdeal := hKernelIdeal) (hReferenceIdeal := hReferenceIdeal) (hPre_sorted_segments := hPre_sorted_segments)
-- ==== Pre_sorted_segments.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x256 .f32) (main_arg1 : IVec S100000 32) (main_arg2 : FVec F S256x256 .f32) (main_arg3 : FVec F S256 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  let main_c_1 : IVec S_ 32 := constantI S_ 32 512#32
  let main_v3 : IVec S100000 32 := broadcastInDim S100000 ![] bcast_S_S100000 main_c_1
  let main_v4 : IVec S100000 1 := cmpi .slt main_arg1 main_v3
  let main_c_2 : IVec S_ 1 := constantI S_ 1 1#1
  let main_v5 : IVec S_ 1 := (fun x v => Host.reduce IntOp.andi x v reducesTo_S100000_S_d0 h_S_) main_v4 main_c_2
  let main_v6 : IVec S_ 1 := andi main_v2 main_v5
  let main_v7 : IVec S99999 32 := (extractStridedSlice S99999 ![0] · slices_S100000_S99999_0) main_arg1
  let main_v8 : IVec S99999 32 := (extractStridedSlice S99999 ![1] · slices_S100000_S99999_1) main_arg1
  let main_v9 : IVec S99999 1 := cmpi .sle main_v7 main_v8
  let main_c_3 : IVec S_ 1 := constantI S_ 1 1#1
  let main_v10 : IVec S_ 1 := (fun x v => Host.reduce IntOp.andi x v reducesTo_S99999_S_d0 h_S_) main_v9 main_c_3
  let main_v11 : IVec S_ 1 := andi main_v6 main_v10
  main_v11
-- ==== Kernel.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S20x5000 : Shape := ⟨2, ![20, 5000]⟩
abbrev S20x1 : Shape := ⟨2, ![20, 1]⟩
abbrev S20 : Shape := ⟨1, ![20]⟩
abbrev S1x20 : Shape := ⟨2, ![1, 20]⟩
abbrev S2x20 : Shape := ⟨2, ![2, 20]⟩
abbrev S20x1x5000 : Shape := ⟨3, ![20, 1, 5000]⟩
abbrev S1x256 : Shape := ⟨2, ![1, 256]⟩
abbrev S512x256 : Shape := ⟨2, ![512, 256]⟩
abbrev S1x1x5000 : Shape := ⟨3, ![1, 1, 5000]⟩
abbrev S5000x256 : Shape := ⟨2, ![5000, 256]⟩
abbrev S640x512 : Shape := ⟨2, ![640, 512]⟩
abbrev S1x1 : Shape := ⟨2, ![1, 1]⟩
abbrev S5000x512 : Shape := ⟨2, ![5000, 512]⟩
abbrev S1x5000 : Shape := ⟨2, ![1, 5000]⟩
abbrev S128x5000 : Shape := ⟨2, ![128, 5000]⟩
abbrev S128x512 : Shape := ⟨2, ![128, 512]⟩

abbrev nBuf : Space → Nat
  | .hbm => 15
  | .vmem => 8
  | .smem => 1
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S20x5000, .i32⟩
  | .hbm, ⟨5, _⟩ => ⟨S20x1, .i32⟩
  | .hbm, ⟨6, _⟩ => ⟨S20, .i32⟩
  | .hbm, ⟨7, _⟩ => ⟨S20x1, .i32⟩
  | .hbm, ⟨8, _⟩ => ⟨S20, .i32⟩
  | .hbm, ⟨9, _⟩ => ⟨S1x20, .i32⟩
  | .hbm, ⟨10, _⟩ => ⟨S1x20, .i32⟩
  | .hbm, ⟨11, _⟩ => ⟨S20x1x5000, .i32⟩
  | .hbm, ⟨12, _⟩ => ⟨S256x256, .bf16⟩
  | .hbm, ⟨13, _⟩ => ⟨S1x256, .f32⟩
  | .hbm, ⟨14, _⟩ => ⟨S512x256, .f32⟩
  | .local _ .vmem, ⟨0, _⟩ => ⟨S1x1x5000, .i32⟩
  | .local _ .vmem, ⟨1, _⟩ => ⟨S1x1x5000, .i32⟩
  | .local _ .vmem, ⟨2, _⟩ => ⟨S5000x256, .f32⟩
  | .local _ .vmem, ⟨3, _⟩ => ⟨S5000x256, .f32⟩
  | .local _ .vmem, ⟨4, _⟩ => ⟨S256x256, .bf16⟩
  | .local _ .vmem, ⟨5, _⟩ => ⟨S1x256, .f32⟩
  | .local _ .vmem, ⟨6, _⟩ => ⟨S512x256, .f32⟩
  | .local _ .vmem, ⟨7, _⟩ => ⟨S640x512, .f32⟩
  | .local _ .smem, ⟨0, _⟩ => ⟨S2x20, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_mult1 (v1 : BitVec 32) : BitVec 32 :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c0_i32_22 : BitVec 32 := 0#32
  let v61 : BitVec 32 := Scalar.addi v41 c0_i32_22
  v61
def k0_cond2 (v1 : BitVec 32) (v3 : BitVec 32) : BitVec 1 :=
  let c511_i32 : BitVec 32 := 511#32
  let v23 : BitVec 32 := Scalar.minsi v3 c511_i32
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c0_i32_16 : BitVec 32 := 0#32
  let v42 : BitVec 32 := Scalar.addi v41 c0_i32_16
  let v43 : BitVec 1 := Scalar.cmpi .sge v23 v42
  let v44 : BitVec 32 := Scalar.extui v43
  let c0_i32_17 : BitVec 32 := 0#32
  let v45 : BitVec 1 := Scalar.cmpi .ne v44 c0_i32_17
  v45

def k0_off3 (v1 : BitVec 32) : Fin 2 → Nat :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c0_i32_22 : BitVec 32 := 0#32
  let v61 : BitVec 32 := Scalar.addi v41 c0_i32_22
  let v62 : BitVec 32 := v61
  let v72 : Index := Scalar.indexCast v62
  let c0_24 : Index := 0#32
  ![v72.toNat, 0]
def k0_mult2 (v1 : BitVec 32) : BitVec 32 :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c128_i32_22 : BitVec 32 := 128#32
  let v61 : BitVec 32 := Scalar.addi v41 c128_i32_22
  v61
def k0_cond3 (v1 : BitVec 32) (v3 : BitVec 32) : BitVec 1 :=
  let c511_i32 : BitVec 32 := 511#32
  let v23 : BitVec 32 := Scalar.minsi v3 c511_i32
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c128_i32 : BitVec 32 := 128#32
  let v46 : BitVec 32 := Scalar.addi v41 c128_i32
  let v47 : BitVec 1 := Scalar.cmpi .sge v23 v46
  let v48 : BitVec 32 := Scalar.extui v47
  let c0_i32_18 : BitVec 32 := 0#32
  let v49 : BitVec 1 := Scalar.cmpi .ne v48 c0_i32_18
  v49

def k0_off4 (v1 : BitVec 32) : Fin 2 → Nat :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c128_i32_22 : BitVec 32 := 128#32
  let v61 : BitVec 32 := Scalar.addi v41 c128_i32_22
  let v62 : BitVec 32 := v61
  let v72 : Index := Scalar.indexCast v62
  let c0_24 : Index := 0#32
  ![v72.toNat, 0]
def k0_mult3 (v1 : BitVec 32) : BitVec 32 :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c256_i32_22 : BitVec 32 := 256#32
  let v61 : BitVec 32 := Scalar.addi v41 c256_i32_22
  v61
def k0_cond4 (v1 : BitVec 32) (v3 : BitVec 32) : BitVec 1 :=
  let c511_i32 : BitVec 32 := 511#32
  let v23 : BitVec 32 := Scalar.minsi v3 c511_i32
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c256_i32 : BitVec 32 := 256#32
  let v50 : BitVec 32 := Scalar.addi v41 c256_i32
  let v51 : BitVec 1 := Scalar.cmpi .sge v23 v50
  let v52 : BitVec 32 := Scalar.extui v51
  let c0_i32_19 : BitVec 32 := 0#32
  let v53 : BitVec 1 := Scalar.cmpi .ne v52 c0_i32_19
  v53

def k0_off5 (v1 : BitVec 32) : Fin 2 → Nat :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c256_i32_22 : BitVec 32 := 256#32
  let v61 : BitVec 32 := Scalar.addi v41 c256_i32_22
  let v62 : BitVec 32 := v61
  let v72 : Index := Scalar.indexCast v62
  let c0_24 : Index := 0#32
  ![v72.toNat, 0]
def k0_mult4 (v1 : BitVec 32) : BitVec 32 :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c384_i32_22 : BitVec 32 := 384#32
  let v61 : BitVec 32 := Scalar.addi v41 c384_i32_22
  v61
def k0_cond5 (v1 : BitVec 32) (v3 : BitVec 32) : BitVec 1 :=
  let c511_i32 : BitVec 32 := 511#32
  let v23 : BitVec 32 := Scalar.minsi v3 c511_i32
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c384_i32 : BitVec 32 := 384#32
  let v54 : BitVec 32 := Scalar.addi v41 c384_i32
  let v55 : BitVec 1 := Scalar.cmpi .sge v23 v54
  let v56 : BitVec 32 := Scalar.extui v55
  let c0_i32_20 : BitVec 32 := 0#32
  let v57 : BitVec 1 := Scalar.cmpi .ne v56 c0_i32_20
  v57

def k0_off6 (v1 : BitVec 32) : Fin 2 → Nat :=
  let c0_i32_10 : BitVec 32 := 0#32
  let v25 : BitVec 1 := Scalar.cmpi .sgt v1 c0_i32_10
  let v26 : BitVec 32 := Scalar.extui v25
  let c0_i32_11 : BitVec 32 := 0#32
  let v27 : BitVec 1 := Scalar.cmpi .slt v1 c0_i32_11
  let v28 : BitVec 32 := Scalar.extui v27
  let v29 : BitVec 32 := Scalar.subi v26 v28
  let c64_i32 : BitVec 32 := 64#32
  let c0_i32_12 : BitVec 32 := 0#32
  let v30 : BitVec 1 := Scalar.cmpi .sgt c64_i32 c0_i32_12
  let v31 : BitVec 32 := Scalar.extui v30
  let c0_i32_13 : BitVec 32 := 0#32
  let v32 : BitVec 1 := Scalar.cmpi .slt c64_i32 c0_i32_13
  let v33 : BitVec 32 := Scalar.extui v32
  let v34 : BitVec 32 := Scalar.subi v31 v33
  let v35 : BitVec 1 := Scalar.cmpi .ne v29 v34
  let v36 : BitVec 32 := Scalar.remsi v1 c64_i32
  let c0_i32_14 : BitVec 32 := 0#32
  let v37 : BitVec 1 := Scalar.cmpi .ne v36 c0_i32_14
  let v38 : BitVec 1 := Scalar.andi v35 v37
  let v24 : BitVec 32 := Scalar.divsi v1 c64_i32
  let c1_i32 : BitVec 32 := 1#32
  let v39 : BitVec 32 := Scalar.subi v24 c1_i32
  let v40 : BitVec 32 := Scalar.select v38 v39 v24
  let c64_i32_15 : BitVec 32 := 64#32
  let v41 : BitVec 32 := Scalar.muli v40 c64_i32_15
  let c384_i32_22 : BitVec 32 := 384#32
  let v61 : BitVec 32 := Scalar.addi v41 c384_i32_22
  let v62 : BitVec 32 := v61
  let v72 : Index := Scalar.indexCast v62
  let c0_24 : Index := 0#32
  ![v72.toNat, 0]

def k0_chk1 (v1 : BitVec 32) (v3 : BitVec 32) : Prop :=
  (∀ (k0_h2 : k0_cond2 v1 v3 = 1#1), 64 ∣ (k0_mult1 v1).toNat) ∧
  (∀ (k0_h2 : k0_cond2 v1 v3 = 1#1), ∀ a, (k0_off3 v1) a + S128x512.size a ≤ S640x512.size a) ∧
  (∀ (k0_h3 : k0_cond3 v1 v3 = 1#1), 64 ∣ (k0_mult2 v1).toNat) ∧
  (∀ (k0_h3 : k0_cond3 v1 v3 = 1#1), ∀ a, (k0_off4 v1) a + S128x512.size a ≤ S640x512.size a) ∧
  (∀ (k0_h4 : k0_cond4 v1 v3 = 1#1), 64 ∣ (k0_mult3 v1).toNat) ∧
  (∀ (k0_h4 : k0_cond4 v1 v3 = 1#1), ∀ a, (k0_off5 v1) a + S128x512.size a ≤ S640x512.size a) ∧
  (∀ (k0_h5 : k0_cond5 v1 v3 = 1#1), 64 ∣ (k0_mult4 v1).toNat) ∧
  (∀ (k0_h5 : k0_cond5 v1 v3 = 1#1), ∀ a, (k0_off6 v1) a + S128x512.size a ≤ S640x512.size a)
theorem k0_mult1_dvd : ∀ (v1 : BitVec 32) (v3 : BitVec 32) (k0_hw1 : k0_chk1 v1 v3), ∀ (k0_h2 : k0_cond2 v1 v3 = 1#1), 64 ∣ (k0_mult1 v1).toNat := fun v1 v3 k0_hw1 k0_h2 => k0_hw1.1 k0_h2
theorem k0_off3_inb : ∀ (v1 : BitVec 32) (v3 : BitVec 32) (k0_hw1 : k0_chk1 v1 v3), ∀ (k0_h2 : k0_cond2 v1 v3 = 1#1), ∀ a, (k0_off3 v1) a + S128x512.size a ≤ S640x512.size a := fun v1 v3 k0_hw1 k0_h2 => k0_hw1.2.1 k0_h2
theorem k0_mult2_dvd : ∀ (v1 : BitVec 32) (v3 : BitVec 32) (k0_hw1 : k0_chk1 v1 v3), ∀ (k0_h3 : k0_cond3 v1 v3 = 1#1), 64 ∣ (k0_mult2 v1).toNat := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S128x512.size a ≤ S640x512.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 64 ∣ (k0_mult3 v1).toNat := fun v1 v3 k0_hw1 k0_h4 => k0_hw1.2.2.2.2.1 k0_h4
theorem k0_off5_inb : ∀ (v1 : BitVec 32) (v3 : BitVec 32) (k0_hw1 : k0_chk1 v1 v3), ∀ (k0_h4 : k0_cond4 v1 v3 = 1#1), ∀ a, (k0_off5 v1) a + S128x512.size a ≤ S640x512.size a := fun v1 v3 k0_hw1 k0_h4 => k0_hw1.2.2.2.2.2.1 k0_h4
theorem k0_mult4_dvd : ∀ (v1 : BitVec 32) (v3 : BitVec 32) (k0_hw1 : k0_chk1 v1 v3), ∀ (k0_h5 : k0_cond5 v1 v3 = 1#1), 64 ∣ (k0_mult4 v1).toNat := fun v1 v3 k0_hw1 k0_h5 => k0_hw1.2.2.2.2.2.2.1 k0_h5
theorem k0_off6_inb : ∀ (v1 : BitVec 32) (v3 : BitVec 32) (k0_hw1 : k0_chk1 v1 v3), ∀ (k0_h5 : k0_cond5 v1 v3 = 1#1), ∀ a, (k0_off6 v1) a + S128x512.size a ≤ S640x512.size a := fun v1 v3 k0_hw1 k0_h5 => k0_hw1.2.2.2.2.2.2.2 k0_h5

def k0_cond6 (i : grid0.Coords) : BitVec 1 :=
  let arg0 : BitVec 32 := BitVec.ofNat 32 (i 0).val
  let c19_i32 : BitVec 32 := 19#32
  let v58 : BitVec 1 := Scalar.cmpi .eq arg0 c19_i32
  let v59 : BitVec 32 := Scalar.extui v58
  let c0_i32_21 : BitVec 32 := 0#32
  let v60 : BitVec 1 := Scalar.cmpi .ne v59 c0_i32_21
  v60

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x5000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x256 : Shape := ⟨2, ![100000, 256]⟩
abbrev S100000 : Shape := ⟨1, ![100000]⟩
abbrev S256x256 : Shape := ⟨2, ![256, 256]⟩
abbrev S256 : Shape := ⟨1, ![256]⟩
abbrev S1x256 : Shape := ⟨2, ![1, 256]⟩
abbrev S_ : Shape := ⟨0, ![]⟩
abbrev S512x256 : Shape := ⟨2, ![512, 256]⟩
abbrev S100000x1 : Shape := ⟨2, ![100000, 1]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000, .i32⟩
  | .hbm, ⟨2, _⟩ => ⟨S256x256, .f32⟩
  | .hbm, ⟨3, _⟩ => ⟨S256, .f32⟩
  | .hbm, ⟨4, _⟩ => ⟨S100000x256, .f32⟩
  | .hbm, ⟨5, _⟩ => ⟨S1x256, .f32⟩
  | .hbm, ⟨6, _⟩ => ⟨S100000x256, .f32⟩
  | .hbm, ⟨7, _⟩ => ⟨S100000x256, .f32⟩
  | .hbm, ⟨8, _⟩ => ⟨S100000x256, .f32⟩
  | .hbm, ⟨9, _⟩ => ⟨S100000x256, .f32⟩
  | .hbm, ⟨10, _⟩ => ⟨S_, .f32⟩
  | .hbm, ⟨11, _⟩ => ⟨S512x256, .f32⟩
  | .hbm, ⟨12, _⟩ => ⟨S100000x1, .i32⟩
  | .hbm, ⟨13, _⟩ => ⟨S512x256, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x256, .f32⟩
  | .hbm, ⟨23, _⟩ => ⟨S100000x256, .f32⟩
  | .hbm, ⟨24, _⟩ => ⟨S100000x256, .f32⟩
  | .hbm, ⟨25, _⟩ => ⟨S_, .f32⟩
  | .hbm, ⟨26, _⟩ => ⟨S512x256, .f32⟩
  | .hbm, ⟨27, _⟩ => ⟨S100000x1, .i32⟩
  | .hbm, ⟨28, _⟩ => ⟨S512x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import Idealize.ShloMosaic.Lib.Pipeline.Frame
public import Idealize.ShloMosaic.Lib.VecWindow
public import Idealize.ShloMosaic.Lib.Tactic
/-! # The kernel's body, run once at a grid point

The body reads two words of the prefetched table (the block's first and last segment number), reads the block's operands,
clears the accumulator at the first point, adds into up to four windows of 128 rows of the accumulator, and at the last
point divides the accumulator's halves into the output. What each of these leaves is named here, at any value instance. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

attribute [local instance] Cert.KernelIdeal.Gen.facts
variable {F : FTy → Type} [FloatOps F] [∀ e, Nonempty (Elt F e)]

local notation "𝕄" => MT nD τ sig Unit (Elt F) ℕ (UR sig nD τ) ℕ

/-- The accumulator and the table, whole. -/
abbrev scM : Memref sig .tc .vmem S640x512 .f32 := Memref.whole cc0_scratch0
abbrev tbM : Memref sig .tc .smem S2x20 .i32 := Memref.whole main_v7

/-- The reset's condition at a grid point: the point is the first. -/
abbrev zcond (i : grid0.Coords) : Prop :=
  Scalar.cmpi .ne (Scalar.extui (Scalar.cmpi .eq (BitVec.ofNat 32 (i 0).val) 0#32) : BitVec 32) 0#32 = 1#1

/-- The table's word for a block's first segment number, and for its last. -/
abbrev word1 (T : tbM.view.ty.Contents (Elt F)) (i : grid0.Coords) : Elt F .i32 :=
  View.readAt (Elt F) tbM.view (Rect.unit (s := S2x20) (k0_off1 i) S1x1.size (k0_off1_inb i)).toLoadRect T (Shape.Idx.first (numel1_S1x1.symm ▸ Nat.one_pos))
abbrev word2 (T : tbM.view.ty.Contents (Elt F)) (i : grid0.Coords) : Elt F .i32 :=
  View.readAt (Elt F) tbM.view (Rect.unit (s := S2x20) (k0_off2 i) S1x1.size (k0_off2_inb i)).toLoadRect T (Shape.Idx.first (numel1_S1x1.symm ▸ Nat.one_pos))

/-- The sign comparison the floor division of the first word by 64 makes: whether the two signs differ. -/
abbrev signs (v1 : BitVec 32) : BitVec 1 :=
  Scalar.cmpi .ne
    (Scalar.subi (Scalar.extui (Scalar.cmpi .sgt v1 0#32) : BitVec 32) (Scalar.extui (Scalar.cmpi .slt v1 0#32)))
    1#32

/-- The accumulator after one conditional window: the window's 128 rows replaced by `pay` of what they held when `cond` holds,
    unchanged otherwise. -/
def wstep (cond : Prop) [Decidable cond] (off : Fin 2 → ℕ) (hb : cond → ∀ a, off a + S128x512.size a ≤ S640x512.size a)
    (pay : FVec F S128x512 .f32 → FVec F S128x512 .f32) (f : scM.view.ty.Contents (Elt F)) : scM.view.ty.Contents (Elt F) :=
  if h : cond then
    scM.view.writes (Elt F) f [⟨Rect.unit (s := S640x512) off S128x512.size (hb h), pay (View.readAt (Elt F) scM.view (Rect.unit (s := S640x512) off S128x512.size (hb h)).toLoadRect f)⟩]
  else f

/-- The accumulator after the conditional reset: all zeros when `cond` holds, unchanged otherwise. -/
def zstep (cond : Prop) [Decidable cond] (f : scM.view.ty.Contents (Elt F)) : scM.view.ty.Contents (Elt F) :=
  if cond then scM.view.writes (Elt F) f [⟨Rect.unit (s := S640x512) ![0, 0] S640x512.size inb_S640x512_S640x512_0_0, k0_pay8⟩] else f

/-- The accumulator after a grid point: the reset, then the four windows in order. -/
def pointAcc (i : grid0.Coords) (v1 v3 : BitVec 32) (hchk : k0_chk1 v1 v3) (v17 : FVec F S5000x512 .bf16) (v19 : IVec S1x5000 32)
    (f : scM.view.ty.Contents (Elt F)) : scM.view.ty.Contents (Elt F) :=
  wstep (k0_cond5 v1 v3 = 1#1) (k0_off6 v1) (k0_off6_inb v1 v3 hchk) (k0_pay4 v17 v19 (Scalar.divsi v1 64#32) (signs v1) (Scalar.remsi v1 64#32))
    (wstep (k0_cond4 v1 v3 = 1#1) (k0_off5 v1) (k0_off5_inb v1 v3 hchk) (k0_pay3 v17 v19 (Scalar.divsi v1 64#32) (signs v1) (Scalar.remsi v1 64#32))
      (wstep (k0_cond3 v1 v3 = 1#1) (k0_off4 v1) (k0_off4_inb v1 v3 hchk) (k0_pay2 v17 v19 (Scalar.divsi v1 64#32) (signs v1) (Scalar.remsi v1 64#32))
        (wstep (k0_cond2 v1 v3 = 1#1) (k0_off3 v1) (k0_off3_inb v1 v3 hchk) (k0_pay1 v17 v19 (Scalar.divsi v1 64#32) (signs v1) (Scalar.remsi v1 64#32))
          (zstep (zcond i) f))))

/-- The output block the accumulator gives: its right half divided by its left, zero where the left is not positive. -/
def outOf (f : scM.view.ty.Contents (Elt F)) : FVec F S512x256 .f32 :=
  k0_pay5 (View.readAt (Elt F) scM.view (Rect.unit (s := S640x512) ![0, 0] S512x256.size inb_S640x512_S512x256_0_0).toLoadRect f)
    (View.readAt (Elt F) scM.view (Rect.unit (s := S640x512) ![0, 256] S512x256.size inb_S640x512_S512x256_0_256).toLoadRect f)

/-- One conditional window, run: from the accumulator at `f`, to whatever follows it with the accumulator at `wstep … f`. -/
theorem window_step (c : Dev nD) (cond : Prop) [Decidable cond] (off : Fin 2 → ℕ) (hb : cond → ∀ a, off a + S128x512.size a ≤ S640x512.size a)
    (pay : FVec F S128x512 .f32 → FVec F S128x512 .f32) (k : Prog (TpuEff nD τ sig (Elt F) Λ₀ .tc) PUnit)
    (K : PUnit → sProp 𝕄) (f : Buf (Elt F) (scM.view.loc (c : Thread nD τ))) :
    iprop((scM.view.loc (c : Thread nD τ) ↦{fullShare} f) ∗ ((scM.view.loc (c : Thread nD τ) ↦{fullShare} wstep cond off hb pay f)
        -∗ wp frame (wpE (defs₀ (F := F)) Variants.none c none) Set.univ k K)) ⊢ wp frame (wpE (defs₀ (F := F)) Variants.none c none) Set.univ
      (if h : cond then do
        let v73 : Vec F S128x512 .f32 ← Prog.lift (.load scM (Rect.unit (s := S640x512) off S128x512.size (hb h)).toLoadRect (View.loadsAt_vmem h_S128x512))
        let v76 : Vec F S128x512 .f32 ← Prog.lift (.load scM (Rect.unit (s := S640x512) off S128x512.size (hb h)).toLoadRect (View.loadsAt_vmem h_S128x512))
        Prog.lift (.store scM (Rect.unit (s := S640x512) off S128x512.size (hb h)) (pay v73) Finset.univ (View.stores_vmem_bits_univ h_S128x512 rfl) (.inl rfl))
        k else k) K := by
  by_cases h : cond
  · rw [wstep, dif_pos h, dif_pos h]
    iintro ⟨H, HR⟩
    sl_exec
    iapply HR
    iexact H
  · rw [wstep, dif_neg h, dif_neg h]
    iintro ⟨H, HR⟩
    iapply HR
    iexact H

/-- The conditional division into the output block, the last statement. -/
theorem emit_step (c : Dev nD) (cond : Prop) [Decidable cond] (arg6 : Memref sig .tc .vmem S512x256 .f32) (harg6 : arg6.IsWhole)
    (K : PUnit → sProp 𝕄) (f : Buf (Elt F) (scM.view.loc (c : Thread nD τ))) (o : Buf (Elt F) (arg6.view.loc (c : Thread nD τ))) :
    iprop((scM.view.loc (c : Thread nD τ) ↦{fullShare} f) ∗ (arg6.view.loc (c : Thread nD τ) ↦[arg6.view.set]{fullShare} o)
      ∗ (((scM.view.loc (c : Thread nD τ) ↦{fullShare} f) ∗ (arg6.view.loc (c : Thread nD τ) ↦[arg6.view.set]{fullShare} (if cond then arg6.view.writes (Elt F) o [⟨Rect.unit (s := S512x256) ![0, 0] S512x256.size inb_S512x256_S512x256_0_0, outOf f⟩] else o)))
        -∗ K ⟨⟩)) ⊢ wp frame (wpE (defs₀ (F := F)) Variants.none c none) Set.univ
      (if h : cond then do
        let v61 : Vec F S512x256 .f32 ← Prog.lift (.load scM (Rect.unit (s := S640x512) ![0, 0] S512x256.size inb_S640x512_S512x256_0_0).toLoadRect (View.loadsAt_vmem h_S512x256))
        let v62 : Vec F S512x256 .f32 ← Prog.lift (.load scM (Rect.unit (s := S640x512) ![0, 256] S512x256.size inb_S640x512_S512x256_0_256).toLoadRect (View.loadsAt_vmem h_S512x256))
        let v68 : Vec F S512x256 .f32 ← Prog.lift (.load arg6 (Rect.unit (s := S512x256) ![0, 0] S512x256.size inb_S512x256_S512x256_0_0).toLoadRect (View.loadsAt_vmem h_S512x256))
        Prog.lift (.store arg6 (Rect.unit (s := S512x256) ![0, 0] S512x256.size inb_S512x256_S512x256_0_0) (k0_pay5 v61 v62) Finset.univ (View.stores_vmem_bits_univ h_S512x256 rfl) (.inl rfl))
        pure ⟨⟩ else pure ⟨⟩) K := by
  by_cases h : cond
  · rw [if_pos h, dif_pos h]
    iintro ⟨H, H6, HR⟩
    sl_exec
    sl_step
    iapply HR
    isplitl [H]; · iexact H
    iexact H6
  · rw [if_neg h, dif_neg h]
    iintro ⟨H, H6, HR⟩
    sl_step
    iapply HR
    isplitl [H]; · iexact H
    iexact H6

/-- The body's first part, run: from the table, the operands and the accumulator, to a result that packs the two words, the block's
    values and its segment numbers, the accumulator cleared at the first point. -/
theorem part1_run (c : Dev nD) (i : grid0.Coords)
    (arg2 : Memref sig .tc .vmem S1x1x5000 .i32) (harg2 : arg2.IsWhole)
    (arg3 : Memref sig .tc .vmem S5000x256 .f32) (harg3 : arg3.IsWhole)
    (arg4 : Memref sig .tc .vmem S256x256 .bf16) (harg4 : arg4.IsWhole)
    (arg5 : Memref sig .tc .vmem S1x256 .f32) (harg5 : arg5.IsWhole)
    (arg6 : Memref sig .tc .vmem S512x256 .f32) (harg6 : arg6.IsWhole)
    (T : Buf (Elt F) (tbM.view.loc (c : Thread nD τ))) (hchk : k0_chk1 (word1 T i) (word2 T i))
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f : Buf (Elt F) (scM.view.loc (c : Thread nD τ)))
    (K : _ → sProp 𝕄) :
    iprop((tbM.view.loc (c : Thread nD τ) ↦{fullShare.right} T) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (scM.view.loc (c : Thread nD τ) ↦{fullShare} f)
        ∗ (iprop((tbM.view.loc (c : Thread nD τ) ↦{fullShare.right} T) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (scM.view.loc (c : Thread nD τ) ↦{fullShare} zstep (zcond i) f))
          -∗ K ⟨BitVec.ofNat 32 (i 0).val, word1 T i, word2 T i, hchk,
            k0_pay6 (View.readAt (Elt F) arg3.view (Rect.unit ![0, 0] S5000x256.size inb_S5000x256_S5000x256_0_0).toLoadRect f3)
             (View.readAt (Elt F) arg4.view (Rect.unit ![0, 0] S256x256.size inb_S256x256_S256x256_0_0).toLoadRect f4)
             (View.readAt (Elt F) arg5.view (Rect.unit ![0, 0] S1x256.size inb_S1x256_S1x256_0_0).toLoadRect f5),
            k0_pay7 (View.readAt (Elt F) arg2.view (Rect.unit ![0, 0, 0] S1x1x5000.size inb_S1x1x5000_S1x1x5000_0_0_0).toLoadRect f2),
            Scalar.minsi (word2 T i) 511#32, Scalar.divsi (word1 T i) 64#32, signs (word1 T i), Scalar.remsi (word1 T i) 64#32⟩))
      ⊢ wp frame (wpE (defs₀ (F := F)) Variants.none c none) Set.univ
          (k0_part1_skel i tbM (Memref.isWhole_whole _) arg2 harg2 arg3 harg3 arg4 harg4 arg5 harg5 arg6 harg6 scM (Memref.isWhole_whole _)) K := by
  unfold k0_part1_skel
  iintro ⟨H1, H2, H3, H4, H5, H7, Hk⟩
  by_cases hz : zcond i
  · rw [zstep, if_pos hz]
    sl_exec (disch := exact hchk)
    sl_step
    sl_unfold_run_names
    iapply Hk
    isplitl [H1]; · iexact H1
    isplitl [H2]; · iexact H2
    isplitl [H3]; · iexact H3
    isplitl [H4]; · iexact H4
    isplitl [H5]; · iexact H5
    iexact H7
  · rw [zstep, if_neg hz]
    sl_exec (disch := exact hchk)
    sl_step
    sl_unfold_run_names
    iapply Hk
    isplitl [H1]; · iexact H1
    isplitl [H2]; · iexact H2
    isplitl [H3]; · iexact H3
    isplitl [H4]; · iexact H4
    isplitl [H5]; · iexact H5
    iexact H7

/-- The body's triple, for any continuation: from the table held at `T`, the operands read as `xs`, `x`, `w`, `b`, the output at
    `o` and the accumulator at `f`, the body runs to its return, the accumulator at `pointAcc … f` and the output at the
    accumulator's quotient at the last point, as it was at any other; the rest as it was. -/
theorem kernelRun (c : Dev nD) (i : grid0.Coords)
    (arg2 : Memref sig .tc .vmem S1x1x5000 .i32) (harg2 : arg2.IsWhole)
    (arg3 : Memref sig .tc .vmem S5000x256 .f32) (harg3 : arg3.IsWhole)
    (arg4 : Memref sig .tc .vmem S256x256 .bf16) (harg4 : arg4.IsWhole)
    (arg5 : Memref sig .tc .vmem S1x256 .f32) (harg5 : arg5.IsWhole)
    (arg6 : Memref sig .tc .vmem S512x256 .f32) (harg6 : arg6.IsWhole)
    (T : Buf (Elt F) (tbM.view.loc (c : Thread nD τ))) (hchk : k0_chk1 (word1 T i) (word2 T i))
    (xs : Vec F S1x1x5000 .i32) (x : Vec F S5000x256 .f32) (w : Vec F S256x256 .bf16) (b : Vec F S1x256 .f32)
    (o : Vec F S512x256 .f32) (f : Buf (Elt F) (scM.view.loc (c : Thread nD τ)))
    (K : PUnit → sProp 𝕄) :
    iprop((tbM.view.loc (c : Thread nD τ) ↦{fullShare.right} T) ∗ owns (c : Thread nD τ) arg2 fullShare xs
        ∗ owns (c : Thread nD τ) arg3 fullShare x ∗ owns (c : Thread nD τ) arg4 fullShare w
        ∗ owns (c : Thread nD τ) arg5 fullShare b ∗ owns (c : Thread nD τ) arg6 fullShare o
        ∗ (scM.view.loc (c : Thread nD τ) ↦{fullShare} f)
        ∗ (iprop((tbM.view.loc (c : Thread nD τ) ↦{fullShare.right} T) ∗ owns (c : Thread nD τ) arg2 fullShare xs
            ∗ owns (c : Thread nD τ) arg3 fullShare x ∗ owns (c : Thread nD τ) arg4 fullShare w
            ∗ owns (c : Thread nD τ) arg5 fullShare b
            ∗ owns (c : Thread nD τ) arg6 fullShare
                (if k0_cond6 i = 1#1 then outOf (pointAcc i (word1 T i) (word2 T i) hchk (k0_pay6 x w b) (k0_pay7 xs) f) else o)
            ∗ (scM.view.loc (c : Thread nD τ) ↦{fullShare} pointAcc i (word1 T i) (word2 T i) hchk (k0_pay6 x w b) (k0_pay7 xs) f))
          -∗ K ⟨⟩))
      ⊢ wp frame (wpE (defs₀ (F := F)) Variants.none c none) Set.univ
          (cc0__body i tbM (Memref.isWhole_whole _) arg2 harg2 arg3 harg3 arg4 harg4 arg5 harg5 arg6 harg6 scM (Memref.isWhole_whole _)) K := by
  unfold owns
  iintro ⟨H1, ⟨%f2, %e2, H2⟩, ⟨%f3, %e3, H3⟩, ⟨%f4, %e4, H4⟩, ⟨%f5, %e5, H5⟩, ⟨%f6, %e6, H6⟩, H7, Hk⟩
  have r2 := View.readAt_full arg2.view f2 inb_S1x1x5000_S1x1x5000_0_0_0
  have r3 := View.readAt_full arg3.view f3 inb_S5000x256_S5000x256_0_0
  have r4 := View.readAt_full arg4.view f4 inb_S256x256_S256x256_0_0
  have r5 := View.readAt_full arg5.view f5 inb_S1x256_S1x256_0_0
  rw [e2] at r2; rw [e3] at r3; rw [e4] at r4; rw [e5] at r5
  have key : pointAcc i (word1 T i) (word2 T i) hchk (k0_pay6 x w b) (k0_pay7 xs) f
    = pointAcc i (word1 T i) (word2 T i) hchk
      (k0_pay6 (View.readAt (Elt F) arg3.view (Rect.unit ![0, 0] S5000x256.size inb_S5000x256_S5000x256_0_0).toLoadRect f3)
       (View.readAt (Elt F) arg4.view (Rect.unit ![0, 0] S256x256.size inb_S256x256_S256x256_0_0).toLoadRect f4)
       (View.readAt (Elt F) arg5.view (Rect.unit ![0, 0] S1x256.size inb_S1x256_S1x256_0_0).toLoadRect f5))
      (k0_pay7 (View.readAt (Elt F) arg2.view (Rect.unit ![0, 0, 0] S1x1x5000.size inb_S1x1x5000_S1x1x5000_0_0_0).toLoadRect f2)) f := by
    rw [r2, r3, r4, r5]
  rw [key]; clear key
  rw [cc0__body_eq_skeleton]
  unfold cc0__body_skel
  rw [wp_bind, k0_part1_eq_skeleton]
  iapply (part1_run c i arg2 harg2 arg3 harg3 arg4 harg4 arg5 harg5 arg6 harg6 T hchk f2 f3 f4 f5 f _)
  isplitl [H1]; · iexact H1
  isplitl [H2]; · iexact H2
  isplitl [H3]; · iexact H3
  isplitl [H4]; · iexact H4
  isplitl [H5]; · iexact H5
  isplitl [H7]; · iexact H7
  iintro ⟨H1, H2, H3, H4, H5, H7⟩
  dsimp only
  iapply (window_step c _ _ (k0_off3_inb _ _ hchk) _ _ _ _)
  isplitl [H7]; · iexact H7
  iintro H7
  iapply (window_step c _ _ (k0_off4_inb _ _ hchk) _ _ _ _)
  isplitl [H7]; · iexact H7
  iintro H7
  iapply (window_step c _ _ (k0_off5_inb _ _ hchk) _ _ _ _)
  isplitl [H7]; · iexact H7
  iintro H7
  iapply (window_step c _ _ (k0_off6_inb _ _ hchk) _ _ _ _)
  isplitl [H7]; · iexact H7
  iintro H7
  iapply (emit_step c _ arg6 harg6 _ _ _)
  isplitl [H7]; · iexact H7
  isplitl [H6]; · iexact H6
  iintro ⟨H7, H6⟩
  iapply Hk
  isplitl [H1]; · iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]
  · iexists _; isplitr; swap; · iexact H6
    ipureintro
    by_cases h6 : k0_cond6 i = 1#1
    · rw [if_pos h6, if_pos h6]
      exact View.read_writes_full arg6.view f6 inb_S512x256_S512x256_0_0 _ _
    · rw [if_neg h6, if_neg h6, e6]
  iexact H7

end Cert.KernelIdeal.Hand
end
-- ==== Proof.Launch.lean ====
module

public import proofs.«01_k».proof.Proof.Body
/-! # The launch

The proof data of the one kernel region (what each window's buffer holds at each grid point, and the accumulator carried from
point to point) and the run of the whole program, at any value instance. The one premise is `TableOk`: the table's two words at
every grid point meet the body's own check. -/
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation heldIn)

attribute [local instance] Cert.KernelIdeal.Gen.facts
variable {F : FTy → Type} [FloatOps F] [∀ e, Nonempty (Elt F e)]

local notation "𝕄" => MT nD τ sig Unit (Elt F) ℕ (UR sig nD τ) ℕ

variable (m : (ℓ : Loc nD τ sig) → Buf (Elt F) ℓ)

/-- The buffers as the region finds them: the launch contents after the host operations. -/
abbrev V (c : Dev nD) (b : Ref sig .tc) : Buf (Elt F) ((c.tc : Thread nD τ).loc b) :=
  StableHlo.after hostOps0 (fun b => m (c, b)) b

/-- The table the region reads. -/
abbrev T (c : Dev nD) : Buf (Elt F) (tbM.view.loc (c : Thread nD τ)) := V m c main_v7

/-- The table's words meet the body's check at every grid point. -/
def TableOk : Prop := ∀ (c : Dev nD) (i : grid0.Coords), k0_chk1 (word1 (T m c) i) (word2 (T m c) i)

/-- The prefetched table's contents, admissible. -/
def adm : (pcfg0 (F := F)).Adm := ⟨fun k => V m (0 : Fin 1) (pre0.ref k), trivial⟩

/-- The region's pipeline, and its arrays as the region finds them. -/
abbrev cfgm : Pipeline.Cfg sig Λ₀ := cfg0 (adm m)
abbrev Arr (c : Dev nD) (w : Fin 5) : Buf (Elt F) (((cfgm m).win w).arr.view.loc (c.tc : Thread nD τ)) := V m c (Pipeline.arrRef spec0 w)

/-- What each operand's buffer holds at a grid point. -/
abbrev segAt (c : Dev nD) (n : ℕ) (h : n < (cfgm m).N) : Vec F S1x1x5000 .i32 := heldIn (cfgm m) (Arr m c) 0 n h
abbrev xAt (c : Dev nD) (n : ℕ) (h : n < (cfgm m).N) : Vec F S5000x256 .f32 := heldIn (cfgm m) (Arr m c) 1 n h
abbrev wAt (c : Dev nD) (n : ℕ) (h : n < (cfgm m).N) : Vec F S256x256 .bf16 := heldIn (cfgm m) (Arr m c) 2 n h
abbrev bAt (c : Dev nD) (n : ℕ) (h : n < (cfgm m).N) : Vec F S1x256 .f32 := heldIn (cfgm m) (Arr m c) 3 n h

variable (hT : TableOk m)

/-- The accumulator before grid point `n`. -/
def accs (c : Dev nD) : (n : ℕ) → n ≤ (cfgm m).N → scM.view.ty.Contents (Elt F)
  | 0, _ => View.junk scM.view
  | n + 1, h => pointAcc ((cfgm m).grid.coords ⟨n, h⟩) (word1 (T m c) ((cfgm m).grid.coords ⟨n, h⟩)) (word2 (T m c) ((cfgm m).grid.coords ⟨n, h⟩))
      (hT c _) (k0_pay6 (xAt m c n h) (wAt m c n h) (bAt m c n h)) (k0_pay7 (segAt m c n h)) (accs c n (Nat.le_of_lt h))

/-- The whole accumulator read is its contents. -/
theorem read_scM (f : scM.view.ty.Contents (Elt F)) : scM.view.read (Elt F) f = f := View.read_whole cc0_scratch0 f

/-- Written over whole, the accumulator reads as what was written. -/
theorem read_over (f : scM.view.ty.Contents (Elt F)) (inb : ∀ a, (![0, 0] : Fin 2 → ℕ) a + S640x512.size a ≤ S640x512.size a)
    (w : (Rect.unit (s := S640x512) ![0, 0] S640x512.size inb).shape.Idx → Elt F .f32) :
    scM.view.read (Elt F) (scM.view.writes (Elt F) f [⟨Rect.unit (s := S640x512) ![0, 0] S640x512.size inb, w⟩]) = w :=
  View.read_writes_full (Val := Elt F) scM.view f inb w []

/-- Reset, the accumulator reads as zeros; -/
theorem zstep_pos (p : Prop) [Decidable p] (f : scM.view.ty.Contents (Elt F)) (h : p) :
    scM.view.read (Elt F) (zstep p f) = k0_pay8 (F := F) := by
  unfold zstep
  rw [if_pos h, read_over]

/-- not reset, it keeps its contents; -/
theorem zstep_neg (p : Prop) [Decidable p] (f : scM.view.ty.Contents (Elt F)) (h : ¬ p) : zstep p f = f := by
  unfold zstep
  rw [if_neg h]

/-- and reset, it forgets what it held. -/
theorem zstep_forget (p : Prop) [Decidable p] (f g : scM.view.ty.Contents (Elt F)) (h : p) : zstep p f = zstep p g := by
  rw [← read_scM (zstep p f), ← read_scM (zstep p g), zstep_pos p f h, zstep_pos p g h]

/-- The invariant before grid point `n`: the accumulator at `accs n` past the first point, at anything before it; the generator
    register; the table's half. -/
def PhiS (c : Dev nD) (n : ℕ) (h : n ≤ (cfgm m).N) : sProp 𝕄 :=
  iprop((∃ f, ⌜n ≠ 0 → f = accs m hT c n h⌝ ∗ (scM.view.loc (c : Thread nD τ) ↦{fullShare} f)) ∗ (∃ r, prngReg c r)
    ∗ (tbM.view.loc (c : Thread nD τ) ↦{fullShare.right} T m c))

/-- The proof data on a core. -/
def dats (_ : Fin 1) (c : Dev nD) : Dat τ (Elt F) Unit ℕ (UR sig nD τ) ℕ (cfgm m) c where
  A w := Arr m c w
  after := fun
    | 0 => fun t => segAt m c t.val t.isLt
    | 1 => fun t => xAt m c t.val t.isLt
    | 2 => fun t => wAt m c t.val t.isLt
    | 3 => fun t => bAt m c t.val t.isLt
    | 4 => fun t => outOf (accs m hT c (t.val + 1) t.isLt)
    | ⟨_ + 5, h⟩ => absurd h (Nat.not_lt.2 (Nat.le_add_left _ _))
  Φ t := PhiS m hT c t.val (Nat.le_of_lt_succ t.isLt)
  q _ := fullShare
  owed _ := 0

/-- What a point leaves in the output's buffer is named by the accumulator after it. -/
theorem after_out (c : Dev nD) (t : Fin (cfgm m).N) : (dats m hT 0 c).after 4 t = outOf (accs m hT c (t.val + 1) t.isLt) := rfl

/-- The first point resets. -/
theorem zcond_first (t : Fin (cfgm m).N) (h : t.val = 0) : zcond ((cfgm m).grid.coords t) := by
  revert t; exact (by decide : ∀ t : Fin grid0.N, t.val = 0 → zcond (grid0.coords t))

/-- What a point leaves does not depend on what the accumulator held before the first. -/
theorem pointAcc_found (c : Dev nD) (t : Fin (cfgm m).N) (f : scM.view.ty.Contents (Elt F))
    (hf : t.val ≠ 0 → f = accs m hT c t.val (Nat.le_of_lt t.isLt)) :
    pointAcc ((cfgm m).grid.coords t) (word1 (T m c) ((cfgm m).grid.coords t)) (word2 (T m c) ((cfgm m).grid.coords t))
      (hT c _) (k0_pay6 (xAt m c t.val t.isLt) (wAt m c t.val t.isLt) (bAt m c t.val t.isLt)) (k0_pay7 (segAt m c t.val t.isLt)) f
      = accs m hT c (t.val + 1) t.isLt := by
  obtain ⟨n, hn⟩ := t
  by_cases h : n = 0
  · have hz := zcond_first m ⟨n, hn⟩ h
    rw [accs]
    unfold pointAcc
    rw [zstep_forget _ f _ hz]
  · rw [hf h, accs]

/-- The inputs' buffers are as fetched at every point. -/
theorem before_in (c : Dev nD) (w : Fin 5) (hw : w ≠ 4) (t : Fin (cfgm m).N) (d) :
    (dats m hT 0 c).before w t d = heldIn (cfgm m) (Arr m c) w t.val t.isLt := by
  match w, hw with
  | 0, _ => exact Dat.before_eq_heldIn _ 0 rfl (fun _ => rfl) (fun _ _ => rfl) (fun _ => rfl) t d
  | 1, _ => exact Dat.before_eq_heldIn _ 1 rfl (fun _ => rfl) (fun _ _ => rfl) (fun _ => rfl) t d
  | 2, _ => exact Dat.before_eq_heldIn _ 2 rfl (fun _ => rfl) (fun _ _ => rfl) (fun _ => rfl) t d
  | 3, _ => exact Dat.before_eq_heldIn _ 3 rfl (fun _ => rfl) (fun _ _ => rfl) (fun _ => rfl) t d
  | ⟨_ + 5, h⟩, _ => exact absurd h (Nat.not_lt.2 (Nat.le_add_left _ _))

/-- Every point but the last leaves the output alone, and does not write it back. -/
theorem flush_out : ∀ t : Fin grid0.N, k0_cond6 (grid0.coords t) ≠ 1#1 → t.val ≠ 19 := by decide

/-- What is left of the output's buffer after a point. -/
def left4 (c : Dev nD) (t : Fin (cfgm m).N) : sProp 𝕄 :=
  match (cfgm m).idle 4 ((cfgm m).grid.coords t) with
        | true => match ((cfgm m).win 4).flush t with
          | false => iprop(∃ d, owns (c : Thread nD τ) (((cfgm m).win 4).stage ((cfgm m).slots t 4)) fullShare ((dats m hT 0 c).before 4 t d))
          | true => owns (c : Thread nD τ) (((cfgm m).win 4).stage ((cfgm m).slots t 4)) fullShare ((dats m hT 0 c).after 4 t)
        | false => owns (c : Thread nD τ) (((cfgm m).win 4).stage ((cfgm m).slots t 4)) fullShare ((dats m hT 0 c).after 4 t)

/-- What the body is called with at a point, and what it returns. -/
def bodyPre (c : Dev nD) (t : Fin (cfgm m).N) : sProp 𝕄 :=
  iprop((dats m hT 0 c).Φ t.castSucc ∗ (dats m hT 0 c).owesAt () t.castSucc
    ∗ owns (c : Thread nD τ) (((cfgm m).win 0).stage ((cfgm m).slots t 0)) fullShare (segAt m c t.val t.isLt)
    ∗ owns (c : Thread nD τ) (((cfgm m).win 1).stage ((cfgm m).slots t 1)) fullShare (xAt m c t.val t.isLt)
    ∗ owns (c : Thread nD τ) (((cfgm m).win 2).stage ((cfgm m).slots t 2)) fullShare (wAt m c t.val t.isLt)
    ∗ owns (c : Thread nD τ) (((cfgm m).win 3).stage ((cfgm m).slots t 3)) fullShare (bAt m c t.val t.isLt)
    ∗ (∃ d, owns (c : Thread nD τ) (((cfgm m).win 4).stage ((cfgm m).slots t 4)) fullShare ((dats m hT 0 c).before 4 t d)))
def bodyPost (c : Dev nD) (t : Fin (cfgm m).N) : sProp 𝕄 :=
  iprop((dats m hT 0 c).Φ t.succ ∗ (dats m hT 0 c).owesAt () t.succ
    ∗ owns (c : Thread nD τ) (((cfgm m).win 0).stage ((cfgm m).slots t 0)) fullShare (segAt m c t.val t.isLt)
    ∗ owns (c : Thread nD τ) (((cfgm m).win 1).stage ((cfgm m).slots t 1)) fullShare (xAt m c t.val t.isLt)
    ∗ owns (c : Thread nD τ) (((cfgm m).win 2).stage ((cfgm m).slots t 2)) fullShare (wAt m c t.val t.isLt)
    ∗ owns (c : Thread nD τ) (((cfgm m).win 3).stage ((cfgm m).slots t 3)) fullShare (bAt m c t.val t.isLt)
    ∗ left4 m hT c t)

/-- The body's call at a point. -/
def bodyAt (t : Fin (cfgm m).N) : Prog (TpuEff nD τ sig (Elt F) Λ₀ .tc) PUnit :=
  defs₀ (F := F) .tc (cfgm m).body ((cfgm m).bodyArgs t ((cfgm m).slots t))

/-- The output is written back at the last point alone. -/
theorem flush4 (t : Fin (cfgm m).N) : ((cfgm m).win 4).flush t = decide (t.val = 19) := by
  have h : ∀ t' : Fin (cfgm m).N, ((cfgm m).win 4).index t' = ((cfgm m).win 4).index t := fun _ => rfl
  have hN : (cfgm m).grid.N = 20 := N_0
  unfold Pipeline.Window.flush
  rw [show ((cfgm m).win 4).isOut = true from rfl, Bool.true_and]
  by_cases ht : t.val = 19
  · rw [show decide (t.val = 19) = true from decide_eq_true ht, Bool.or_eq_true]
    exact .inl (decide_eq_true (by omega))
  · rw [show decide (t.val = 19) = false from decide_eq_false ht, Bool.or_eq_false_iff]
    exact ⟨decide_eq_false (by omega), decide_eq_false fun ⟨_, hne⟩ => hne (h _)⟩

/-- A point that leaves the output alone: its buffer is handed back as found. -/
theorem idle4 (t : Fin (cfgm m).N) (h : k0_cond6 ((cfgm m).grid.coords t) ≠ 1#1) :
    (cfgm m).idle 4 ((cfgm m).grid.coords t) = true ∧ ((cfgm m).win 4).flush t = false := by
  refine ⟨?_, (flush4 m t).trans (decide_eq_false (flush_out t h))⟩
  show (!(k0_cond6 ((cfgm m).grid.coords t) == 1#1)) = true
  rw [beq_false_of_ne h]; rfl

/-- The last point stores it. -/
theorem live4 (t : Fin (cfgm m).N) (h : k0_cond6 ((cfgm m).grid.coords t) = 1#1) :
    (cfgm m).idle 4 ((cfgm m).grid.coords t) = false := by
  show (!(k0_cond6 ((cfgm m).grid.coords t) == 1#1)) = false
  rw [h]; rfl

/-- The output's buffer as the run leaves it is as the obligation describes it. -/
theorem out_left (c : Dev nD) (t : Fin (cfgm m).N) (d) :
    (owns (c : Thread nD τ) (((cfgm m).win 4).stage ((cfgm m).slots t 4)) fullShare
      (if k0_cond6 ((cfgm m).grid.coords t) = 1#1 then outOf (accs m hT c (t.val + 1) t.isLt) else (dats m hT 0 c).before 4 t d) : sProp 𝕄)
      ⊢ left4 m hT c t := by
  unfold left4
  by_cases h : k0_cond6 ((cfgm m).grid.coords t) = 1#1
  · rw [live4 m t h]
    exact Entails.of_eq (congrArg (owns (c : Thread nD τ) (((cfgm m).win 4).stage ((cfgm m).slots t 4)) fullShare) (if_pos h))
  · rw [(idle4 m t h).1, (idle4 m t h).2]
    refine (Entails.of_eq (congrArg (owns (c : Thread nD τ) (((cfgm m).win 4).stage ((cfgm m).slots t 4)) fullShare) (if_neg h))).trans ?_
    iintro H; iexists d; iexact H

/-- An input's buffer, found at whatever it was before, is found as fetched. -/
theorem found_in (c : Dev nD) (w : Fin 5) (hw : w ≠ 4) (t : Fin (cfgm m).N) :
    (iprop(∃ d, owns (c : Thread nD τ) (((cfgm m).win w).stage ((cfgm m).slots t w)) fullShare ((dats m hT 0 c).before w t d)) : sProp 𝕄)
      ⊢ owns (c : Thread nD τ) (((cfgm m).win w).stage ((cfgm m).slots t w)) fullShare (heldIn (cfgm m) (Arr m c) w t.val t.isLt) := by
  iintro ⟨%d, H⟩
  rw [before_in m hT c w hw t d]
  iexact H

/-- The body at a point: the invariant opened, the run, the invariant closed. -/
theorem sound_body (c : Dev nD) (t : Fin (cfgm m).N) :
    bodyPre m hT c t ⊢ wp frame (wpE (defs₀ (F := F)) Variants.none c none) Set.univ (bodyAt m t) (fun _ => bodyPost m hT c t) := by
  unfold bodyPre bodyPost bodyAt
  unfold defs₀
  rw [Defs.onTc_tc]
  rw [show (dats m hT 0 c).Φ t.castSucc = PhiS m hT c t.val (Nat.le_of_lt t.isLt) from rfl,
    show (dats m hT 0 c).Φ t.succ = PhiS m hT c (t.val + 1) t.isLt from rfl]
  unfold PhiS
  unfold Dat.owesAt Pipeline.owesWithin
  rw [show (dats m hT 0 c).owed t.castSucc = 0 from rfl, show (dats m hT 0 c).owed t.succ = 0 from rfl]
  iintro ⟨⟨⟨%f, %hf, HS⟩, Hg, HT⟩, ⟨%W, %hW, HO⟩, H0, H1, H2, H3, ⟨%d4, H4⟩⟩
  iapply (kernelRun c ((cfgm m).grid.coords t) (((cfgm m).win 0).stage ((cfgm m).slots t 0)) _ (((cfgm m).win 1).stage ((cfgm m).slots t 1)) _
    (((cfgm m).win 2).stage ((cfgm m).slots t 2)) _ (((cfgm m).win 3).stage ((cfgm m).slots t 3)) _ (((cfgm m).win 4).stage ((cfgm m).slots t 4)) _
    (T m c) (hT c _) (segAt m c t.val t.isLt) (xAt m c t.val t.isLt) (wAt m c t.val t.isLt) (bAt m c t.val t.isLt) ((dats m hT 0 c).before 4 t d4) f _)
  rw [pointAcc_found m hT c t f hf]
  isplitl [HT]; · iexact HT
  isplitl [H0]; · iexact H0
  isplitl [H1]; · iexact H1
  isplitl [H2]; · iexact H2
  isplitl [H3]; · iexact H3
  isplitl [H4]; · iexact H4
  isplitl [HS]; · iexact HS
  iintro ⟨HT, H0, H1, H2, H3, H4, HS⟩
  isplitl [HS Hg HT]
  · isplitl [HS]
    · iexists _; isplitr; swap; · iexact HS
      ipureintro; exact fun _ => rfl
    isplitl [Hg]; · iexact Hg
    iexact HT
  isplitl [HO]
  · iexists W; isplitr; · ipureintro; exact fun _ _ => Or.inl trivial
    iexact HO
  isplitl [H0]; · iexact H0
  isplitl [H1]; · iexact H1
  isplitl [H2]; · iexact H2
  isplitl [H3]; · iexact H3
  iapply (out_left m hT c t d4)
  iexact H4

/-- The library's body obligation. -/
theorem body_obligation (c : Dev nD) :
    BodyObligation (dats m hT 0 c) (defs₀ (F := F)) Variants.none () Set.univ := fun t => by
  rw [bigSep_W0, bigSep_W0]
  exact triple_restated (sound_body m hT c t) rfl
    (BIClass.sep_mono .rfl (BIClass.sep_mono .rfl (BIClass.sep_mono (found_in m hT c 0 (by decide) t) (BIClass.sep_mono (found_in m hT c 1 (by decide) t)
      (BIClass.sep_mono (found_in m hT c 2 (by decide) t) (BIClass.sep_mono (found_in m hT c 3 (by decide) t) .rfl)))))) fun _ => .rfl

/-- The host operations use no fresh buffer. -/
theorem hostOps0_fresh : (hostOps0 : List (HloOp τ sig (Elt F))).Forall fun op => op.fresh = ∅ :=
  ⟨rfl, rfl, rfl, rfl, rfl, rfl, rfl, rfl, rfl, rfl, rfl⟩

/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The table handed to the body, as one buffer's half. -/
theorem held_table (c : Dev nD) :
    (Pipeline.ΦT pre0 (adm m).1 c : sProp 𝕄) = iprop(tbM.view.loc (c : Thread nD τ) ↦{fullShare.right} T m c) := by
  obtain rfl : c = 0 := Subsingleton.elim _ _
  unfold Pipeline.ΦT Pipeline.prefHeld
  rw [bigSep_univ_eq_bigSepL [(0 : Fin 1)] (by decide) (by decide)]
  rfl

theorem scratch_rest (c : Dev nD) :
    (Pipeline.ΦA spec0 c : sProp 𝕄) = iprop((∃ f, scM.view.loc (c : Thread nD τ) ↦{fullShare} f) ∗ (∃ r, prngReg c r)) := by
  unfold Pipeline.ΦA
  rw [scopedRest0_eq]

theorem enter (c : Dev nD) : iprop(Pipeline.ΦA spec0 c ∗ Pipeline.ΦT pre0 (adm m).1 c) ⊢ ((dats m hT 0 c).Φ 0 : sProp 𝕄) := by
  rw [scratch_rest, held_table, show (dats m hT 0 c).Φ 0 = PhiS m hT c 0 (Nat.zero_le _) from rfl]
  unfold PhiS
  iintro ⟨⟨⟨%f, HS⟩, Hg⟩, HT⟩
  isplitl [HS]
  · iexists f; isplitr; swap; · iexact HS
    ipureintro; exact fun h => absurd rfl h
  isplitl [Hg]; · iexact Hg
  iexact HT

theorem leave (c : Dev nD) : (dats m hT 0 c).Φ (Fin.last (cfgm m).N) ⊢ (Pipeline.ΦA spec0 c : sProp 𝕄) := by
  rw [scratch_rest, show (dats m hT 0 c).Φ (Fin.last (cfgm m).N) = PhiS m hT c (cfgm m).N le_rfl from rfl]
  unfold PhiS
  iintro ⟨⟨%f, -, HS⟩, Hg, -⟩
  isplitl [HS]; · iexists f; iexact HS
  iexact Hg

set_option backward.isDefEq.respectTransparency.types false in
/-- Every fair execution from any memory whose table is good ends, at the arrays the data predicts, every other buffer as the
    region found it, and every counter at zero. -/
theorem run_main (ρ : Dev nD → PrngReg) :
    θ_run defs (onTc (τ := τ) (main (F := F))) ⟨m, fun _ => 0, ρ⟩
      (fun r => Pipeline.FramePost (Pipeline.pin pcfgs fun _ => adm m) (dats m hT) 0 (V m) r ∧ r.2.sem = fun _ => 0) :=
  Pipeline.θ_run_frameP_track (Q' := _) pcfgs (fun _ => adm m) (dats m hT) (0 : Fin 1) launch0 defs₀ Variants.none m ρ main
    (hbody := fun c => (body_obligation m hT c).loose) (hshare := fun c => (dats m hT 0 c).share_full fun _ => rfl)
    (howed := fun _ _ => rfl) (V := V m) (hmain := hmain m Variants.none) (hA := fun _ _ => rfl)
    (hpf := fun c k => by obtain rfl : c = 0 := Subsingleton.elim _ _; rfl) (hin := enter m hT) (hout := leave m hT)

end Cert.KernelIdeal.Hand
end
-- ==== Proof.Words.lean ====
module

public import proofs.«01_k».proof.Proof.Body
public import Idealize.ShloMosaic.Lib.WordCmp
/-! # The words the kernel steers by

A block's first segment number `p` and last segment number `q` are below 512. The four windows start at `p` rounded down to a
multiple of 64, plus 0, 128, 256, 384, and each is run when `q` reaches it. -/
@[expose] public section
noncomputable section
namespace Cert.KernelIdeal.Hand
open Cert.KernelIdeal Cert.KernelIdeal.Gen
open Idealize.ShloMosaic

/-- Where window `k` starts, for a block whose first segment number is `p`. -/
def base (p k : ℕ) : ℕ := p / 64 * 64 + 128 * k

/-- A comparison of two words as the kernel makes it, widened and tested again. -/
def reaches (x y : BitVec 32) : BitVec 1 := Scalar.cmpi .ne (Scalar.extui (Scalar.cmpi .sge x y)) 0#32

theorem reaches_iff (x y : BitVec 32) : reaches x y = 1#1 ↔ y.toInt ≤ x.toInt := by
  unfold reaches Scalar.cmpi
  rw [show IntOp.cmpi .sge x y = BitVec.ofBool (decide (y.toInt ≤ x.toInt)) from rfl]
  by_cases h : y.toInt ≤ x.toInt
  · simp only [h, decide_true, iff_true]; decide
  · simp only [h, decide_false, iff_false]; decide

/-- The windows' starts as words. -/
theorem mult1_eq : ∀ p : Fin 512, k0_mult1 (BitVec.ofNat 32 p.val) = BitVec.ofNat 32 (base p.val 0) := by decide +kernel
theorem mult2_eq : ∀ p : Fin 512, k0_mult2 (BitVec.ofNat 32 p.val) = BitVec.ofNat 32 (base p.val 1) := by decide +kernel
theorem mult3_eq : ∀ p : Fin 512, k0_mult3 (BitVec.ofNat 32 p.val) = BitVec.ofNat 32 (base p.val 2) := by decide +kernel
theorem mult4_eq : ∀ p : Fin 512, k0_mult4 (BitVec.ofNat 32 p.val) = BitVec.ofNat 32 (base p.val 3) := by decide +kernel

/-- The smaller of a segment number and 511 is the number. -/
theorem min_eq : ∀ q : Fin 512, Scalar.minsi (BitVec.ofNat 32 q.val) 511#32 = BitVec.ofNat 32 q.val := by decide +kernel

theorem toNat_small {n : ℕ} (h : n < 2 ^ 31) : (BitVec.ofNat 32 n).toNat = n := by
  rw [BitVec.toNat_ofNat]; exact Nat.mod_eq_of_lt (by omega)

theorem toInt_small {n : ℕ} (h : n < 2 ^ 31) : (BitVec.ofNat 32 n).toInt = (n : ℤ) := by
  rw [BitVec.toInt_eq_toNat_of_lt (by rw [toNat_small h]; omega), toNat_small h]

theorem base_lt {p : ℕ} (hp : p < 512) (k : ℕ) (hk : k < 4) : base p k < 2 ^ 31 := by unfold base; omega

theorem reaches_small {x y : ℕ} (hx : x < 512) (hy : y < 2 ^ 31) :
    reaches (Scalar.minsi (BitVec.ofNat 32 x) 511#32) (BitVec.ofNat 32 y) = 1#1 ↔ y ≤ x := by
  rw [reaches_iff, min_eq ⟨x, hx⟩, toInt_small hy, toInt_small (by omega : x < 2 ^ 31)]
  exact Int.ofNat_le

variable {p q : ℕ} (hp : p < 512) (hq : q < 512)
include hp

/-- The windows' offsets in the accumulator. -/
theorem off3_eq : k0_off3 (BitVec.ofNat 32 p) = ![base p 0, 0] := by
  rw [show k0_off3 (BitVec.ofNat 32 p) = ![(k0_mult1 (BitVec.ofNat 32 p)).toNat, 0] from rfl, mult1_eq ⟨p, hp⟩,
    toNat_small (base_lt hp 0 (by decide))]
theorem off4_eq : k0_off4 (BitVec.ofNat 32 p) = ![base p 1, 0] := by
  rw [show k0_off4 (BitVec.ofNat 32 p) = ![(k0_mult2 (BitVec.ofNat 32 p)).toNat, 0] from rfl, mult2_eq ⟨p, hp⟩,
    toNat_small (base_lt hp 1 (by decide))]
theorem off5_eq : k0_off5 (BitVec.ofNat 32 p) = ![base p 2, 0] := by
  rw [show k0_off5 (BitVec.ofNat 32 p) = ![(k0_mult3 (BitVec.ofNat 32 p)).toNat, 0] from rfl, mult3_eq ⟨p, hp⟩,
    toNat_small (base_lt hp 2 (by decide))]
theorem off6_eq : k0_off6 (BitVec.ofNat 32 p) = ![base p 3, 0] := by
  rw [show k0_off6 (BitVec.ofNat 32 p) = ![(k0_mult4 (BitVec.ofNat 32 p)).toNat, 0] from rfl, mult4_eq ⟨p, hp⟩,
    toNat_small (base_lt hp 3 (by decide))]

include hq

/-- A window is run when the last segment number reaches its start. -/
theorem cond2_iff : k0_cond2 (BitVec.ofNat 32 p) (BitVec.ofNat 32 q) = 1#1 ↔ base p 0 ≤ q := by
  rw [show k0_cond2 (BitVec.ofNat 32 p) (BitVec.ofNat 32 q) = reaches (Scalar.minsi (BitVec.ofNat 32 q) 511#32) (k0_mult1 (BitVec.ofNat 32 p)) from rfl,
    mult1_eq ⟨p, hp⟩]
  exact reaches_small hq (base_lt hp 0 (by decide))
theorem cond3_iff : k0_cond3 (BitVec.ofNat 32 p) (BitVec.ofNat 32 q) = 1#1 ↔ base p 1 ≤ q := by
  rw [show k0_cond3 (BitVec.ofNat 32 p) (BitVec.ofNat 32 q) = reaches (Scalar.minsi (BitVec.ofNat 32 q) 511#32) (k0_mult2 (BitVec.ofNat 32 p)) from rfl,
    mult2_eq ⟨p, hp⟩]
  exact reaches_small hq (base_lt hp 1 (by decide))
theorem cond4_iff : k0_cond4 (BitVec.ofNat 32 p) (BitVec.ofNat 32 q) = 1#1 ↔ base p 2 ≤ q := by
  rw [show k0_cond4 (BitVec.ofNat 32 p) (BitVec.ofNat 32 q) = reaches (Scalar.minsi (BitVec.ofNat 32 q) 511#32) (k0_mult3 (BitVec.ofNat 32 p)) from rfl,
    mult3_eq ⟨p, hp⟩]
  exact reaches_small hq (base_lt hp 2 (by decide))
theorem cond5_iff : k0_cond5 (BitVec.ofNat 32 p) (BitVec.ofNat 32 q) = 1#1 ↔ base p 3 ≤ q := by
  rw [show k0_cond5 (BitVec.ofNat 32 p) (BitVec.ofNat 32 q) = reaches (Scalar.minsi (BitVec.ofNat 32 q) 511#32) (k0_mult4 (BitVec.ofNat 32 p)) from rfl,
    mult4_eq ⟨p, hp⟩]
  exact reaches_small hq (base_lt hp 3 (by decide))

omit hp in
/-- A window that is run lies inside the accumulator. -/
theorem window_inside {b : ℕ} (hd : 64 ∣ b) (hb : b ≤ q) (a : Fin 2) : (![b, 0] : Fin 2 → ℕ) a + S128x512.size a ≤ S640x512.size a := by
  fin_cases a
  · show b + 128 ≤ 640
    obtain ⟨k, rfl⟩ := hd; omega
  · exact le_refl 512

omit hp hq in
theorem base_dvd (p k : ℕ) : 64 ∣ base p k := by unfold base; omega

/-- Two segment numbers below 512 meet the body's check. -/
theorem chk_of_lt : k0_chk1 (BitVec.ofNat 32 p) (BitVec.ofNat 32 q) := by
  unfold k0_chk1
  rw [cond2_iff hp hq, cond3_iff hp hq, cond4_iff hp hq, cond5_iff hp hq, off3_eq hp, off4_eq hp, off5_eq hp, off6_eq hp,
    mult1_eq ⟨p, hp⟩, mult2_eq ⟨p, hp⟩, mult3_eq ⟨p, hp⟩, mult4_eq ⟨p, hp⟩, toNat_small (base_lt hp 0 (by decide)),
    toNat_small (base_lt hp 1 (by decide)), toNat_small (base_lt hp 2 (by decide)), toNat_small (base_lt hp 3 (by decide))]
  exact ⟨fun _ => base_dvd p 0, window_inside hq (base_dvd p 0), fun _ => base_dvd p 1, window_inside hq (base_dvd p 1),
    fun _ => base_dvd p 2, window_inside hq (base_dvd p 2), fun _ => base_dvd p 3, window_inside hq (base_dvd p 3)⟩

end Cert.KernelIdeal.Hand
end
-- ==== Proof.Sorted.lean ====
module

public import proofs.«01_k».proof.Defs
public import proofs.«01_k».proof.Proof.Gen.Pre_sorted_segments
public import Idealize.ShloMosaic.Lib.Pointwise
public import Idealize.ShloMosaic.Lib.ReduceAll
/-! # The precondition, read

Every segment number is below 512, and they do not decrease. -/
@[expose] public section
noncomputable section
namespace Cert.Segments
open Idealize.ShloMosaic

/-- One word for each input row. -/
abbrev Rows : Shape := ⟨1, ![100000]⟩

/-- The segment number of row `r`, as a natural number. -/
def num (seg : IVec Rows 32) (r : Fin 100000) : ℕ := (seg (ix1 r)).toNat

/-- Segment numbers below 512, not decreasing. -/
structure Sorted (seg : IVec Rows 32) : Prop where
  lt : ∀ r, num seg r < 512
  mono : ∀ r r' : Fin 100000, r ≤ r' → num seg r ≤ num seg r'

/-- A segment word is its number's word. -/
theorem Sorted.word {seg : IVec Rows 32} (h : Sorted seg) (r : Fin 100000) : seg (ix1 r) = BitVec.ofNat 32 (num seg r) := by
  unfold num; rw [BitVec.ofNat_toNat, BitVec.setWidth_eq]

/-- A word that is not negative and below 512 is below 512 as a natural number. -/
theorem toNat_lt_of_signed {x : BitVec 32} (h0 : (0 : ℤ) ≤ x.toInt) (h1 : x.toInt < 512) : x.toNat < 512 := by
  have := x.isLt
  rw [BitVec.toInt_eq_toNat_cond] at h0 h1
  split at h0 <;> omega

/-- A comparison bit that is one says the comparison holds. -/
theorem bit_true {p : Prop} [Decidable p] (h : BitVec.ofBool (decide p) = 1#1) : p := by
  by_contra hp
  rw [decide_eq_false hp] at h
  exact absurd h (by decide)

attribute [local instance] Cert.Pre_sorted_segments.Gen.facts

instance : Subsingleton Cert.Pre_sorted_segments.S_.Idx := ⟨fun a b => funext fun i => i.elim0⟩

/-- The precondition gives sorted segment numbers. -/
theorem sorted_of_pre {F : FTy → Type} [FloatOps F] (a0 : FVec F Cert.Pre_sorted_segments.S100000x256 .f32) (seg : IVec Rows 32)
    (a2 : FVec F Cert.Pre_sorted_segments.S256x256 .f32) (a3 : FVec F Cert.Pre_sorted_segments.S256 .f32)
    (h : Cert.Pre_sorted_segments.fn a0 seg a2 a3 = fun _ => 1#1) : Sorted seg := by
  have h' := congrFun h ix0
  unfold Cert.Pre_sorted_segments.fn at h'
  obtain ⟨h12, h3⟩ := IntOp.andi_eq_one.mp h'
  obtain ⟨h1, h2⟩ := IntOp.andi_eq_one.mp h12
  have e1 := fun r : Fin 100000 => Host.reduce_andi_all _ _ _ _ _ h1 (ix1 r)
  have e2 := fun r : Fin 100000 => Host.reduce_andi_all _ _ _ _ _ h2 (ix1 r)
  have e3 := fun r : Fin 99999 => Host.reduce_andi_all _ _ _ _ _ h3 (ix1 r)
  pointwise at e1
  pointwise at e2
  pointwise at e3
  have lt : ∀ r, num seg r < 512 := fun r =>
    toNat_lt_of_signed (bit_true (p := (0#32).toInt ≤ (seg (ix1 r)).toInt) (e1 r)) (bit_true (p := (seg (ix1 r)).toInt < (512#32).toInt) (e2 r))
  have int : ∀ r, (seg (ix1 r)).toInt = num seg r := fun r =>
    BitVec.toInt_eq_toNat_of_lt (by have := lt r; unfold num at this; omega)
  have step : ∀ (n : ℕ) (h : n + 1 < 100000), num seg ⟨n, by omega⟩ ≤ num seg ⟨n + 1, h⟩ := fun n h => by
    have := bit_true (p := (seg (ix1 (⟨n, by omega⟩ : Fin 100000))).toInt ≤ (seg (ix1 (⟨1 + n, by omega⟩ : Fin 100000))).toInt) (e3 ⟨n, by omega⟩)
    rw [int, int] at this
    have e : (⟨1 + n, by omega⟩ : Fin 100000) = ⟨n + 1, h⟩ := Fin.ext (Nat.add_comm 1 n)
    rw [e] at this
    exact_mod_cast this
  refine ⟨lt, fun r r' => ?_⟩
  obtain ⟨a, ha⟩ := r
  obtain ⟨b, hb⟩ := r'
  intro hab
  obtain ⟨d, rfl⟩ := Nat.exists_eq_add_of_le (show a ≤ b from hab)
  clear hab
  induction d with
  | zero => exact le_rfl
  | succ d ih => exact (ih (by omega)).trans (step (a + d) hb)
end Cert.Segments
end
-- ==== Proof.Entry.lean ====
module

public import proofs.«01_k».proof.Proof.Launch
public import proofs.«01_k».proof.Proof.Words
public import proofs.«01_k».proof.Proof.Sorted
public import Idealize.ShloMosaic.Lib.StableHlo.Run
/-! # What the region finds

The arrays and the table after the host operations, and the segment numbers of each block. -/
@[expose] public section
set_option maxRecDepth 16384
noncomputable section
namespace Cert.KernelIdeal.Hand
open Cert.KernelIdeal Cert.KernelIdeal.Gen
open Idealize.ShloMosaic Idealize.ShloMosaic.TcCoe Idealize.ShloMosaic.StableHlo
open Cert.Segments
attribute [local instance] Cert.KernelIdeal.Gen.facts
variable {F : FTy → Type} [FloatOps F] [∀ e, Nonempty (Elt F e)]
variable (m : (ℓ : Loc nD τ sig) → Buf (Elt F) ℓ)

/-- The program's arguments, as arrays. -/
abbrev argX (c : Dev nD) : FVec F S100000x256 .f32 := m ((c.tc : Thread nD τ).loc main_arg0)
abbrev argSeg (c : Dev nD) : IVec Rows 32 := m ((c.tc : Thread nD τ).loc main_arg1)
abbrev argW (c : Dev nD) : FVec F S256x256 .f32 := m ((c.tc : Thread nD τ).loc main_arg2)
abbrev argB (c : Dev nD) : FVec F S256 .f32 := m ((c.tc : Thread nD τ).loc main_arg3)

theorem V_arg0 (c : Dev nD) : V m c main_arg0 = argX m c := by
  show StableHlo.after hostOps0 _ _ = _
  after_results
theorem V_v8 (c : Dev nD) : V m c main_v8 = shapeCast S20x1x5000 (shapeCast S20x5000 (argSeg m c) shapeCasts_S100000_S20x5000) shapeCasts_S20x5000_S20x1x5000 := by
  show StableHlo.after hostOps0 _ _ = _
  after_results
  rfl
theorem V_v9 (c : Dev nD) : V m c main_v9 = truncf .bf16 (argW m c) bitsLt_bf16_f32 := by
  show StableHlo.after hostOps0 _ _ = _
  after_results
theorem V_v10 (c : Dev nD) : V m c main_v10 = shapeCast S1x256 (argB m c) shapeCasts_S256_S1x256 := by
  show StableHlo.after hostOps0 _ _ = _
  after_results
  rfl
theorem V_arg1 (c : Dev nD) : V m c main_arg1 = argSeg m c := by
  show StableHlo.after hostOps0 _ _ = _
  after_results
theorem V_arg2 (c : Dev nD) : V m c main_arg2 = argW m c := by
  show StableHlo.after hostOps0 _ _ = _
  after_results
theorem V_arg3 (c : Dev nD) : V m c main_arg3 = argB m c := by
  show StableHlo.after hostOps0 _ _ = _
  after_results
/-- The table the host prepares. -/
def table (seg : IVec Rows 32) : IVec S2x20 32 :=
  let v0 := shapeCast S20x5000 seg shapeCasts_S100000_S20x5000
  let first := shapeCast S20 (extractStridedSlice S20x1 ![0, 0] v0 slices_S20x5000_S20x1_0_0) shapeCasts_S20x1_S20
  let last := shapeCast S20 (extractStridedSlice S20x1 ![0, 4999] v0 slices_S20x5000_S20x1_0_4999) shapeCasts_S20x1_S20
  concatenate S2x20 0 [⟨S1x20, broadcastInDim S1x20 ![1] bcast_S20_S1x20_1 first⟩, ⟨S1x20, broadcastInDim S1x20 ![1] bcast_S20_S1x20_1 last⟩]
    concatenates_S1x20_S1x20_S2x20_d0
theorem T_eq (c : Dev nD) : T m c = table (argSeg m c) := by
  show StableHlo.after hostOps0 _ _ = _
  after_results
  rfl

/-- Row `r` of block `g`. -/
def row (g : Fin 20) (r : Fin 5000) : Fin 100000 := ⟨g.val * 5000 + r.val, by omega⟩

theorem table_first (seg : IVec Rows 32) (g : Fin 20) : table seg (ix2 0 g) = seg (ix1 (row g 0)) := by
  pointwise [table, row]
theorem table_last (seg : IVec Rows 32) (g : Fin 20) : table seg (ix2 1 g) = seg (ix1 (row g 4999)) := by
  pointwise [table, row]

/-- The block of a grid point. -/
abbrev blk (i : grid0.Coords) : Fin 20 := i 0

theorem off1_eq : ∀ i : grid0.Coords, k0_off1 i = ![0, (i 0).val] := by decide +kernel
theorem off2_eq : ∀ i : grid0.Coords, k0_off2 i = ![1, (i 0).val] := by decide +kernel

/-- A load of one word of the table reads the word. -/
theorem readAt_word (t : IVec S2x20 32) (off : Fin 2 → ℕ) (inb : ∀ a, off a + S1x1.size a ≤ S2x20.size a) (j : S1x1.Idx) (a : Fin 2) (b : Fin 20)
    (ha : off 0 = a.val) (hb : off 1 = b.val) :
    View.readAt (Elt F) tbM.view (Rect.unit (s := S2x20) off S1x1.size inb).toLoadRect (show tbM.view.ty.Contents (Elt F) from t) j = t (ix2 a b) := by
  refine congrArg t (funext fun d => ?_)
  match d with
  | 0 =>
    have hj : (j 0).val < 1 := (j 0).isLt
    refine Fin.ext ?_
    show off 0 + 1 * (j 0).val = a.val
    omega
  | 1 =>
    have hj : (j 1).val < 1 := (j 1).isLt
    refine Fin.ext ?_
    show off 1 + 1 * (j 1).val = b.val
    omega

theorem word1_eq (t : IVec S2x20 32) (i : grid0.Coords) : word1 (F := F) t i = t (ix2 0 (blk i)) :=
  readAt_word t _ _ _ 0 (blk i) (by rw [off1_eq]; rfl) (by rw [off1_eq]; rfl)
theorem word2_eq (t : IVec S2x20 32) (i : grid0.Coords) : word2 (F := F) t i = t (ix2 1 (blk i)) :=
  readAt_word t _ _ _ 1 (blk i) (by rw [off2_eq]; rfl) (by rw [off2_eq]; rfl)

variable {m}

/-- Under the precondition the table's words are the first and the last segment number of the point's block, -/
theorem first_eq {c : Dev nD} (h : Sorted (argSeg m c)) (i : grid0.Coords) :
    word1 (T m c) i = BitVec.ofNat 32 (num (argSeg m c) (row (blk i) 0)) := by
  rw [T_eq, word1_eq, table_first, h.word]
theorem last_eq {c : Dev nD} (h : Sorted (argSeg m c)) (i : grid0.Coords) :
    word2 (T m c) i = BitVec.ofNat 32 (num (argSeg m c) (row (blk i) 4999)) := by
  rw [T_eq, word2_eq, table_last, h.word]

/-- so they meet the body's check. -/
theorem tableOk (h : ∀ c, Sorted (argSeg m c)) : TableOk m := fun c i => by
  rw [first_eq (h c), last_eq (h c)]
  exact chk_of_lt ((h c).lt _) ((h c).lt _)
end Cert.KernelIdeal.Hand
end
-- ==== Proof.Same.lean ====
module

public import proofs.«01_k».proof.Defs
public import proofs.«01_k».proof.Proof.Gen.Kernel
public import proofs.«01_k».proof.Proof.Gen.KernelIdeal
@[expose] public section
noncomputable section
/-! # The two printed kernels are one program

The kernel and its idealization print the same operations. -/
namespace Cert.Proof
open Idealize.ShloMosaic Idealize.SL.Sem

variable {F : FTy → Type} [FloatOps F]
attribute [local instance] Cert.Kernel.Gen.facts Cert.KernelIdeal.Gen.facts in
/-- The bodies are one. -/
theorem body_same : @Cert.Kernel.cc0__body F _ _ = @Cert.KernelIdeal.cc0__body F _ _ := rfl
attribute [local instance] Cert.Kernel.Gen.facts Cert.KernelIdeal.Gen.facts in
/-- The regions are one. -/
theorem pcfgs_same : @Cert.Kernel.pcfgs F _ _ = @Cert.KernelIdeal.pcfgs F _ _ := rfl
attribute [local instance] Cert.Kernel.Gen.facts Cert.KernelIdeal.Gen.facts in
/-- The labelled bodies are one. -/
theorem defs₀_same : @Cert.Kernel.defs₀ F _ _ = @Cert.KernelIdeal.defs₀ F _ _ := by
  unfold Cert.Kernel.defs₀ Cert.KernelIdeal.defs₀
  refine congrArg Defs.onTc (funext fun l => ?_)
  match l with
  | 0 => rfl
attribute [local instance] Cert.Kernel.Gen.facts Cert.KernelIdeal.Gen.facts in
/-- The procedures of the whole program are one. -/
theorem defs_same : @Cert.Kernel.defs F _ _ = @Cert.KernelIdeal.defs F _ _ := by
  unfold Cert.Kernel.defs Cert.KernelIdeal.defs
  exact congrArg (Pipeline.defs Cert.KernelIdeal.pcfgs) defs₀_same
attribute [local instance] Cert.Kernel.Gen.facts Cert.KernelIdeal.Gen.facts in
/-- The host programs are one. -/
theorem main_same : @Cert.Kernel.main F _ _ = @Cert.KernelIdeal.main F _ _ := rfl
end Cert.Proof
end
-- ==== Proof.Frame.lean ====
module

public import proofs.«01_k».proof.Proof.Entry
public import proofs.«01_k».proof.Proof.Same
/-! # The end of a run

What the launch's postcondition says of the arguments, the counters and the result's array. -/
@[expose] public section
set_option maxRecDepth 16384
noncomputable section
namespace Cert.KernelIdeal.Hand
open Cert.KernelIdeal Cert.KernelIdeal.Gen
open Idealize.ShloMosaic Idealize.ShloMosaic.TcCoe Idealize.ShloMosaic.Pipeline Idealize.SL.Sem
open Cert.Segments
attribute [local instance] Cert.KernelIdeal.Gen.facts
variable {F : FTy → Type} [FloatOps F] [∀ e, Nonempty (Elt F e)]
variable (m : (ℓ : Loc nD τ sig) → Buf (Elt F) ℓ)

/-- The last three arguments are no window's array. -/
theorem not_window : (∀ w : Fin 5, (spec0 w).arr.view.ref ≠ main_arg1) ∧ (∀ w : Fin 5, (spec0 w).arr.view.ref ≠ main_arg2)
    ∧ ∀ w : Fin 5, (spec0 w).arr.view.ref ≠ main_arg3 := by decide

/-- Every argument ends as it was. -/
def Kept (r : PUnit × MemSt nD τ sig (Elt F)) (c : Dev nD) : Prop :=
  r.2.mem ((c.tc : Thread nD τ).loc main_arg0) = argX m c
  ∧ r.2.mem ((c.tc : Thread nD τ).loc main_arg1) = argSeg m c
  ∧ r.2.mem ((c.tc : Thread nD τ).loc main_arg2) = argW m c
  ∧ r.2.mem ((c.tc : Thread nD τ).loc main_arg3) = argB m c

/-- Under the precondition every run ends with the arguments kept, the result's array as the last write-back leaves it and
    every counter at zero. -/
theorem run_kept (h : ∀ c, Sorted (argSeg m c)) (ρ : Dev nD → PrngReg) :
    θ_run defs (onTc (τ := τ) (main (F := F))) ⟨m, fun _ => 0, ρ⟩
      (fun r => (∀ c, Kept m r c ∧ r.2.mem ((c.tc : Thread nD τ).loc main_v11) = (dats m (tableOk h) 0 c).arrAt 4 (cfgm m).N)
        ∧ r.2.sem = fun _ => 0) :=
  (θ_run defs _ _).mono (fun r hr => ⟨fun c =>
    ⟨⟨((hr.1 c).1 1).trans (((dats m (tableOk h) 0 c).arrAt_in 1 rfl _).trans (V_arg0 m c)),
      ((hr.1 c).2 main_arg1 (mem_restRefs_of main_arg1 (by decide) not_window.1)).trans (V_arg1 m c),
      ((hr.1 c).2 main_arg2 (mem_restRefs_of main_arg2 (by decide) not_window.2.1)).trans (V_arg2 m c),
      ((hr.1 c).2 main_arg3 (mem_restRefs_of main_arg3 (by decide) not_window.2.2)).trans (V_arg3 m c)⟩,
     (hr.1 c).1 4⟩, hr.2⟩)
    (run_main m (tableOk h) ρ)

end Cert.KernelIdeal.Hand
end
-- ==== Proof.Held.lean ====
module

public import proofs.«01_k».proof.Proof.Entry
public import Idealize.ShloMosaic.Lib.Pointwise
/-! # What a point's buffers hold

The segment numbers and the rows are fetched afresh at every point, block by block; the matrix and the bias are fetched once, whole. -/
@[expose] public section
set_option maxRecDepth 16384
noncomputable section
namespace Cert.KernelIdeal.Hand
open Cert.KernelIdeal Cert.KernelIdeal.Gen
open Idealize.ShloMosaic Idealize.ShloMosaic.TcCoe
open Idealize.ShloMosaic.Pipeline (heldIn heldIn_of_fetch heldIn_of_not_fetch)
open Cert.Segments
attribute [local instance] Cert.KernelIdeal.Gen.facts
variable {F : FTy → Type} [FloatOps F] [∀ e, Nonempty (Elt F e)]
variable (m : (ℓ : Loc nD τ sig) → Buf (Elt F) ℓ)

/-- The two moving windows are fetched at every point, the two fixed ones at the first alone. -/
theorem fetch_seg (t : Fin (cfgm m).N) : ((cfgm m).win 0).fetch t = true := by
  revert t
  exact (by decide +kernel : ∀ t : Fin grid0.N, Pipeline.Window.fetchOf grid0 false cc0_transform_0 t = true)
theorem fetch_x (t : Fin (cfgm m).N) : ((cfgm m).win 1).fetch t = true := by
  revert t
  exact (by decide +kernel : ∀ t : Fin grid0.N, Pipeline.Window.fetchOf grid0 false cc0_transform_1 t = true)
theorem fetch_w (t : Fin (cfgm m).N) : ((cfgm m).win 2).fetch t = decide (t.val = 0) := by
  revert t
  exact (by decide +kernel : ∀ t : Fin grid0.N, Pipeline.Window.fetchOf grid0 false cc0_transform_2 t = decide (t.val = 0))
theorem fetch_b (t : Fin (cfgm m).N) : ((cfgm m).win 3).fetch t = decide (t.val = 0) := by
  revert t
  exact (by decide +kernel : ∀ t : Fin grid0.N, Pipeline.Window.fetchOf grid0 false cc0_transform_3 t = decide (t.val = 0))

/-- The block of the point `n`, and the blocks' places. -/
def pt (n : ℕ) (h : n < (cfgm m).N) : Fin 20 := ⟨n, h⟩
theorem blk_eq (t : Fin (cfgm m).N) : blk ((cfgm m).grid.coords t) = pt m t.val t.isLt := by
  revert t
  exact fun t => Fin.ext ((by decide +kernel : ∀ t : Fin grid0.N, ((grid0.coords t) 0).val = t.val) t)
theorem place_seg : ∀ t : Fin grid0.N, cc0_transform_0 (grid0.coords t) = ![t.val, 0, 0] := by decide +kernel
theorem place_x : ∀ t : Fin grid0.N, cc0_transform_1 (grid0.coords t) = ![t.val, 0] := by decide +kernel
theorem place_w : ∀ t : Fin grid0.N, cc0_transform_2 (grid0.coords t) = ![0, 0] := by decide +kernel
theorem place_b : ∀ t : Fin grid0.N, cc0_transform_3 (grid0.coords t) = ![0, 0] := by decide +kernel

/-- An index of an uncut window's block is one of what its transfer moves. -/
theorem inside (w : Fin 5) (i : (cfgm m).grid.Coords) (hc : ∀ a, ((cfgm m).win w).clip i a = none) (j : ((cfgm m).win w).block.Idx) (a) :
    (j a).val < ((cfgm m).win w).xsize i a := by
  unfold Pipeline.Window.xsize
  rw [hc a]
  exact (j a).isLt

/-- A fetched block, read at an index of it, is the array at the block's place plus the index. -/
theorem held_fetched (c : Dev nD) (w : Fin 5) (t : Fin (cfgm m).N) (hf : ((cfgm m).win w).fetch t = true)
    (hc : ∀ a, ((cfgm m).win w).clip ((cfgm m).grid.coords t) a = none) (j : ((cfgm m).win w).block.Idx) :
    heldIn (cfgm m) (Arr m c) w t.val t.isLt j
      = (((cfgm m).win w).blk t).view.read (Elt F) (Arr m c w)
          (fun a => ⟨(j a).val, inside m w _ hc j a⟩) := by
  rw [heldIn_of_fetch (Arr m c) w t hf]
  exact dif_pos ((((cfgm m).win w).moved_iff _ j).mpr (inside m w _ hc j))

theorem seg_fetched (c : Dev nD) (n : ℕ) (h : n < (cfgm m).N) (r : Fin 5000) :
    segAt m c n h (ix3 0 0 r) = V m c main_v8 (ix3 (pt m n h) 0 r) := by
  refine (held_fetched m c 0 ⟨n, h⟩ (fetch_seg m ⟨n, h⟩) (fun _ => rfl) (ix3 0 0 r)).trans ?_
  refine congrArg (V m c main_v8) (funext fun a => Fin.ext ?_)
  have e := place_seg ⟨n, h⟩
  match a with
  | 0 =>
    show cc0_transform_0 (grid0.coords ⟨n, h⟩) 0 * 1 + 1 * 0 = n
    rw [e]; show n * 1 + 1 * 0 = n; omega
  | 1 =>
    show cc0_transform_0 (grid0.coords ⟨n, h⟩) 1 * 1 + 1 * 0 = 0
    rw [e]; rfl
  | 2 =>
    show cc0_transform_0 (grid0.coords ⟨n, h⟩) 2 * 5000 + 1 * r.val = r.val
    rw [e]; show 0 * 5000 + 1 * r.val = r.val; omega

theorem x_fetched (c : Dev nD) (n : ℕ) (h : n < (cfgm m).N) (r : Fin 5000) (k : Fin 256) :
    xAt m c n h (ix2 r k) = V m c main_arg0 (ix2 (row (pt m n h) r) k) := by
  refine (held_fetched m c 1 ⟨n, h⟩ (fetch_x m ⟨n, h⟩) (fun _ => rfl) (ix2 r k)).trans ?_
  refine congrArg (V m c main_arg0) (funext fun a => Fin.ext ?_)
  have e := place_x ⟨n, h⟩
  match a with
  | 0 =>
    show cc0_transform_1 (grid0.coords ⟨n, h⟩) 0 * 5000 + 1 * r.val = n * 5000 + r.val
    rw [e]; show n * 5000 + 1 * r.val = n * 5000 + r.val; omega
  | 1 =>
    show cc0_transform_1 (grid0.coords ⟨n, h⟩) 1 * 256 + 1 * k.val = k.val
    rw [e]; show 0 * 256 + 1 * k.val = k.val; omega

theorem w_fetched (c : Dev nD) (n : ℕ) (h : n < (cfgm m).N) (k j : Fin 256) :
    wAt m c n h (ix2 k j) = V m c main_v9 (ix2 k j) := by
  induction n with
  | zero =>
    refine (held_fetched m c 2 ⟨0, h⟩ (fetch_w m ⟨0, h⟩) (fun _ => rfl) (ix2 k j)).trans ?_
    refine congrArg (V m c main_v9) (funext fun a => Fin.ext ?_)
    have e := place_w ⟨0, h⟩
    match a with
    | 0 =>
      show cc0_transform_2 (grid0.coords ⟨0, h⟩) 0 * 256 + 1 * k.val = k.val
      rw [e]; show 0 * 256 + 1 * k.val = k.val; omega
    | 1 =>
      show cc0_transform_2 (grid0.coords ⟨0, h⟩) 1 * 256 + 1 * j.val = j.val
      rw [e]; show 0 * 256 + 1 * j.val = j.val; omega
  | succ n ih =>
    exact (congrFun (heldIn_of_not_fetch (Arr m c) 2 n h (fetch_w m ⟨n + 1, h⟩)) (ix2 k j)).trans (ih _)

theorem b_fetched (c : Dev nD) (n : ℕ) (h : n < (cfgm m).N) (j : Fin 256) :
    bAt m c n h (ix2 0 j) = V m c main_v10 (ix2 0 j) := by
  induction n with
  | zero =>
    refine (held_fetched m c 3 ⟨0, h⟩ (fetch_b m ⟨0, h⟩) (fun _ => rfl) (ix2 0 j)).trans ?_
    refine congrArg (V m c main_v10) (funext fun a => Fin.ext ?_)
    have e := place_b ⟨0, h⟩
    match a with
    | 0 =>
      show cc0_transform_3 (grid0.coords ⟨0, h⟩) 0 * 1 + 1 * 0 = 0
      rw [e]; rfl
    | 1 =>
      show cc0_transform_3 (grid0.coords ⟨0, h⟩) 1 * 256 + 1 * j.val = j.val
      rw [e]; show 0 * 256 + 1 * j.val = j.val; omega
  | succ n ih =>
    exact (congrFun (heldIn_of_not_fetch (Arr m c) 3 n h (fetch_b m ⟨n + 1, h⟩)) (ix2 0 j)).trans (ih _)

/-- The same, in the program's arguments. -/
theorem seg_held (c : Dev nD) (n : ℕ) (h : n < (cfgm m).N) (r : Fin 5000) :
    segAt m c n h (ix3 0 0 r) = argSeg m c (ix1 (row (pt m n h) r)) := by
  rw [seg_fetched, V_v8]
  generalize pt m n h = g
  pointwise [row]
theorem x_held (c : Dev nD) (n : ℕ) (h : n < (cfgm m).N) (r : Fin 5000) (k : Fin 256) :
    xAt m c n h (ix2 r k) = argX m c (ix2 (row (pt m n h) r) k) := by
  rw [x_fetched, V_arg0]
theorem b_held (c : Dev nD) (n : ℕ) (h : n < (cfgm m).N) (j : Fin 256) :
    bAt m c n h (ix2 0 j) = argB m c (ix1 j) := by
  rw [b_fetched, V_v10]
  pointwise
end Cert.KernelIdeal.Hand
end
-- ==== Proof.Value.lean ====
module

public import proofs.«01_k».proof.Proof.Entry
public import Idealize.ShloMosaic.Lib.Pointwise
public import Idealize.ShloMosaic.Lib.WritesUnit
/-! # What the body's values are over the extended reals

One window's payload at an index, the block's values at an index, the output at an index. -/
@[expose] public section
set_option maxRecDepth 16384
noncomputable section
namespace Cert.KernelIdeal.Hand
open Cert.KernelIdeal Cert.KernelIdeal.Gen
open Idealize.ShloMosaic Idealize.ShloMosaic.TcCoe
open Cert.Segments
attribute [local instance] Cert.KernelIdeal.Gen.facts

/-- One window's payload, from the window's first row. -/
def payAt (lo : BitVec 32) (v17 : FVec Ideal S5000x512 .bf16) (v19 : IVec S1x5000 32) (v73 : FVec Ideal S128x512 .f32) : FVec Ideal S128x512 .f32 :=
  shapeCast S128x512 (addf v73 (matmul dot_S128x5000_S5000x512_S128x512_1_0_0_1_n_n none
    (truncf .bf16 (sitofp (F := Ideal) .f32 (extui 32 (cmpi .eq (addi (broadcast S128x5000 lo) (iota .tc S128x5000 32 [0] iota_S128x5000_d0_w32))
      (broadcastTo S128x5000 v19 broadcasts_S1x5000_S128x5000)) natLt_1_32)) bitsLt_bf16_f32) v17 (constant S128x512 .f32 0x00000000#32)))
    shapeCasts_S128x512_S128x512

section
variable (v1 : BitVec 32) (v17 : FVec Ideal S5000x512 .bf16) (v19 : IVec S1x5000 32)
/-- The four windows' payloads are the one payload, from each window's first row. -/
theorem pay1_eq : k0_pay1 v17 v19 (Scalar.divsi v1 64#32) (signs v1) (Scalar.remsi v1 64#32) = payAt (k0_mult1 v1) v17 v19 := rfl
theorem pay2_eq : k0_pay2 v17 v19 (Scalar.divsi v1 64#32) (signs v1) (Scalar.remsi v1 64#32) = payAt (k0_mult2 v1) v17 v19 := rfl
theorem pay3_eq : k0_pay3 v17 v19 (Scalar.divsi v1 64#32) (signs v1) (Scalar.remsi v1 64#32) = payAt (k0_mult3 v1) v17 v19 := rfl
theorem pay4_eq : k0_pay4 v17 v19 (Scalar.divsi v1 64#32) (signs v1) (Scalar.remsi v1 64#32) = payAt (k0_mult4 v1) v17 v19 := rfl
end

/-- A comparison of two words, widened and converted, is one where they agree and zero elsewhere. -/
theorem hot_eq (x y : BitVec 32) :
    ((((BitVec.ofBool (decide (x = y))).setWidth 32).toInt : ℝ) : EReal) = if x = y then 1 else 0 := by
  by_cases h : x = y
  · rw [if_pos h, decide_eq_true h]
    rw [show ((BitVec.ofBool true).setWidth 32).toInt = 1 from by decide]; simp
  · rw [if_neg h, decide_eq_false h]
    rw [show ((BitVec.ofBool false).setWidth 32).toInt = 0 from by decide]; simp

/-- A window's payload adds, to what the window held, the values of the rows whose segment number is the window's row. -/
theorem payAt_apply (lo : BitVec 32) (v17 : FVec Ideal S5000x512 .bf16) (v19 : IVec S1x5000 32) (v73 : FVec Ideal S128x512 .f32)
    (i : Fin 128) (j : Fin 512) :
    payAt lo v17 v19 v73 (ix2 i j)
      = v73 (ix2 i j) + ∑ r : Fin 5000, (if lo + BitVec.ofNat 32 i.val = v19 (ix2 0 r) then v17 (ix2 r j) else 0) := by
  pointwise [payAt]
  refine congrArg (v73 (ix2 i j) + ·) (Finset.sum_congr rfl fun r _ => ?_)
  exact (congrArg (· * v17 (ix2 r j)) (hot_eq (lo + BitVec.ofNat 32 i.val) (v19 (ix2 0 r)))).trans
    (by split <;> simp)

/-- A row's weight in a column. -/
def weight (x w : Fin 256 → EReal) (b : EReal) : EReal := Ideal.exp (Ideal.tanh (∑ k : Fin 256, x k * w k + b))

/-- What a block's row contributes to a segment: its weights, and its weights times its entries. -/
theorem pay6_left (x : FVec Ideal S5000x256 .f32) (w : FVec Ideal S256x256 .bf16) (b : FVec Ideal S1x256 .f32) (r : Fin 5000) (j : Fin 256) :
    k0_pay6 (F := Ideal) x w b (ix2 r ⟨j.val, by omega⟩) = weight (fun k => x (ix2 r k)) (fun k => w (ix2 k j)) (b (ix2 0 j)) := by
  pointwise [k0_pay6]
  rfl
theorem pay6_right (x : FVec Ideal S5000x256 .f32) (w : FVec Ideal S256x256 .bf16) (b : FVec Ideal S1x256 .f32) (r : Fin 5000) (j : Fin 256) :
    k0_pay6 (F := Ideal) x w b (ix2 r ⟨j.val + 256, by omega⟩)
      = weight (fun k => x (ix2 r k)) (fun k => w (ix2 k j)) (b (ix2 0 j)) * x (ix2 r j) := by
  pointwise [k0_pay6]
  exact dif_neg (by omega)
/-- The segment numbers of a block, as the body lays them out; -/
theorem pay7_apply (s : IVec S1x1x5000 32) (r : Fin 5000) : k0_pay7 (F := Ideal) s (ix2 0 r) = s (ix3 0 0 r) := by
  pointwise [k0_pay7]
/-- the quotient the body stores; -/
theorem pay5_apply (a ax : FVec Ideal S512x256 .f32) (s : Fin 512) (j : Fin 256) :
    k0_pay5 (F := Ideal) a ax (ix2 s j) = if 0 < a (ix2 s j) then Ideal.div (ax (ix2 s j)) (a (ix2 s j)) else 0 := by
  pointwise [k0_pay5]
/-- and the cleared accumulator. -/
theorem pay8_apply (s : Fin 640) (j : Fin 512) : k0_pay8 (F := Ideal) (ix2 s j) = 0 := by
  pointwise [k0_pay8]

end Cert.KernelIdeal.Hand
end
-- ==== Proof.Point.lean ====
module

public import proofs.«01_k».proof.Proof.Value
/-! # What one grid point adds to the accumulator

A block's rows carry segment numbers between `p` and `q`. Whatever row of the accumulator one of them names lies in exactly one
of the four windows, and that window is run; so a point adds to every row the sum of the values that carry its number. -/
@[expose] public section
set_option maxRecDepth 16384
noncomputable section
namespace Cert.KernelIdeal.Hand
open Cert.KernelIdeal Cert.KernelIdeal.Gen
open Idealize.ShloMosaic Idealize.ShloMosaic.TcCoe
open Cert.Segments
attribute [local instance] Cert.KernelIdeal.Gen.facts

/-- The accumulator's contents over the extended reals, and one entry of them. -/
abbrev Acc := scM.view.ty.Contents (Elt Ideal)
def entry (f : Acc) (s : Fin 640) (j : Fin 512) : EReal := scM.view.read (Elt Ideal) f (ix2 s j)

/-- The sum of the values a block's rows carry to row `s`. -/
def gain (v17 : FVec Ideal S5000x512 .bf16) (v19 : IVec S1x5000 32) (s : ℕ) (j : Fin 512) : EReal :=
  ∑ r : Fin 5000, (if BitVec.ofNat 32 s = v19 (ix2 0 r) then v17 (ix2 r j) else 0)

/-- One window adds the gain to its own rows, when it is run. -/
theorem wstep_entry (cond : Prop) [Decidable cond] (off : Fin 2 → ℕ) (hb : cond → ∀ a, off a + S128x512.size a ≤ S640x512.size a)
    (v17 : FVec Ideal S5000x512 .bf16) (v19 : IVec S1x5000 32) (b : ℕ) (hoff : off = ![b, 0]) (f : Acc) (s : Fin 640) (j : Fin 512) :
    entry (wstep (F := Ideal) cond off hb (payAt (BitVec.ofNat 32 b) v17 v19) f) s j
      = entry f s j + if cond ∧ b ≤ s.val ∧ s.val < b + 128 then gain v17 v19 s.val j else 0 := by
  subst hoff
  unfold wstep
  by_cases h : cond
  · rw [dif_pos h]
    by_cases hs : b ≤ s.val ∧ s.val < b + 128
    · rw [if_pos ⟨h, hs⟩]
      refine (View.read_writes_cons_rows_of_mem scM.view f (hb h) _ [] (ix2 s j) (ix2 (⟨s.val - b, by omega⟩ : Fin 128) j) rfl ?_ rfl).trans ?_
      · show s.val = b + (s.val - b)
        omega
      · refine (payAt_apply _ v17 v19 _ _ j).trans ?_
        congr 1
        · refine congrArg f (funext fun d => ?_)
          match d with
          | 0 =>
            refine Fin.ext ?_
            show b + 1 * (s.val - b) = s.val
            omega
          | 1 =>
            refine Fin.ext ?_
            show 0 + 1 * j.val = j.val
            omega
        · unfold gain
          refine Finset.sum_congr rfl fun r _ => ?_
          rw [← BitVec.ofNat_add, show b + (s.val - b) = s.val by omega]
    · rw [if_neg fun e => hs e.2, add_zero]
      refine (View.read_writes_cons_rows_of_not_mem scM.view f (hb h) _ [] (ix2 s j) rfl rfl ?_).trans rfl
      show s.val < b ∨ b + 128 ≤ s.val
      omega
  · rw [dif_neg h, if_neg fun e => h e.1, add_zero]

/-- The four windows together add the gain once. -/
theorem windows_once {p q s : ℕ} (g : EReal) (hg : g ≠ 0 → p ≤ s ∧ s ≤ q) (hq : q < 512) :
    ((((if base p 0 ≤ q ∧ base p 0 ≤ s ∧ s < base p 0 + 128 then g else 0)
      + if base p 1 ≤ q ∧ base p 1 ≤ s ∧ s < base p 1 + 128 then g else 0)
      + if base p 2 ≤ q ∧ base p 2 ≤ s ∧ s < base p 2 + 128 then g else 0)
      + if base p 3 ≤ q ∧ base p 3 ≤ s ∧ s < base p 3 + 128 then g else 0) = g := by
  by_cases h0 : g = 0
  · subst h0; simp
  obtain ⟨h1, h2⟩ := hg h0
  unfold base
  by_cases a0 : s < p / 64 * 64 + 128
  · rw [if_pos (by omega), if_neg (by omega), if_neg (by omega), if_neg (by omega)]; simp
  by_cases a1 : s < p / 64 * 64 + 256
  · rw [if_neg (by omega), if_pos (by omega), if_neg (by omega), if_neg (by omega)]; simp
  by_cases a2 : s < p / 64 * 64 + 384
  · rw [if_neg (by omega), if_neg (by omega), if_pos (by omega), if_neg (by omega)]; simp
  · rw [if_neg (by omega), if_neg (by omega), if_neg (by omega), if_pos (by omega)]; simp

/-- A gain that is not zero goes to a row some block row names. -/
theorem gain_named (v17 : FVec Ideal S5000x512 .bf16) (v19 : IVec S1x5000 32) (s : ℕ) (j : Fin 512) (h : gain v17 v19 s j ≠ 0) :
    ∃ r : Fin 5000, BitVec.ofNat 32 s = v19 (ix2 0 r) := by
  by_contra hn
  exact h (Finset.sum_eq_zero fun r _ => if_neg fun e => hn ⟨r, e⟩)

/-- One point adds the gain to every row, for a block whose segment numbers lie between its two words. -/
theorem pointAcc_entry (i : grid0.Coords) {p q : ℕ} (hp : p < 512) (hq : q < 512)
    (hchk : k0_chk1 (BitVec.ofNat 32 p) (BitVec.ofNat 32 q)) (v17 : FVec Ideal S5000x512 .bf16) (v19 : IVec S1x5000 32)
    (hv : ∀ r : Fin 5000, p ≤ (v19 (ix2 0 r)).toNat ∧ (v19 (ix2 0 r)).toNat ≤ q) (f : Acc) (s : Fin 640) (j : Fin 512) :
    entry (pointAcc (F := Ideal) i (BitVec.ofNat 32 p) (BitVec.ofNat 32 q) hchk v17 v19 f) s j
      = entry (zstep (F := Ideal) (zcond i) f) s j + gain v17 v19 s.val j := by
  unfold pointAcc
  rw [pay1_eq, pay2_eq, pay3_eq, pay4_eq, mult1_eq ⟨p, hp⟩, mult2_eq ⟨p, hp⟩, mult3_eq ⟨p, hp⟩, mult4_eq ⟨p, hp⟩]
  rw [wstep_entry _ _ _ _ _ _ (off6_eq hp), wstep_entry _ _ _ _ _ _ (off5_eq hp), wstep_entry _ _ _ _ _ _ (off4_eq hp),
    wstep_entry _ _ _ _ _ _ (off3_eq hp)]
  simp only [cond2_iff hp hq, cond3_iff hp hq, cond4_iff hp hq, cond5_iff hp hq]
  have key := windows_once (p := p) (q := q) (s := s.val) (gain v17 v19 s.val j) (fun h => by
    obtain ⟨r, e⟩ := gain_named _ _ _ _ h
    have := hv r
    rw [← e, toNat_small (by omega)] at this
    exact this) hq
  rw [add_assoc, add_assoc, add_assoc, ← add_assoc (ite _ _ _), ← add_assoc (_ + _) , key]
end Cert.KernelIdeal.Hand
end
-- ==== Proof.Total.lean ====
module

public import proofs.«01_k».proof.Proof.Held
public import proofs.«01_k».proof.Proof.Point
/-! # The accumulator after every point

Each point adds what its own rows carry, so after the last point every row of the accumulator holds the sum, over all the rows
of the input, of the values that carry its number. -/
@[expose] public section
set_option maxRecDepth 16384
noncomputable section
namespace Cert.KernelIdeal.Hand
open Cert.KernelIdeal Cert.KernelIdeal.Gen
open Idealize.ShloMosaic Idealize.ShloMosaic.TcCoe
open Cert.Segments
attribute [local instance] Cert.KernelIdeal.Gen.facts
variable (m : (ℓ : Loc nD τ sig) → Buf (Elt Ideal) ℓ) (c : Dev nD)

/-- The weight of input row `r` in column `j`. -/
def wt (r : Fin 100000) (j : Fin 256) : EReal :=
  weight (fun k => argX m c (ix2 r k)) (fun k => argW m c (ix2 k j)) (argB m c (ix1 j))

/-- What input row `r` adds to its row of the accumulator: its weights, then its weights times its entries. -/
def carried (r : Fin 100000) (j : Fin 512) : EReal :=
  if h : j.val < 256 then wt m c r ⟨j.val, h⟩ else wt m c r ⟨j.val - 256, by omega⟩ * argX m c (ix2 r ⟨j.val - 256, by omega⟩)

/-- The weight matrix that a point holds is the argument. -/
theorem w_held (n : ℕ) (h : n < (cfgm m).N) (k j : Fin 256) : wAt m c n h (ix2 k j) = argW m c (ix2 k j) := by
  rw [w_fetched, V_v9]
  pointwise

/-- A block row's weight is the input row's. -/
theorem weight_held (n : ℕ) (h : n < (cfgm m).N) (r : Fin 5000) (j : Fin 256) :
    weight (fun k => xAt m c n h (ix2 r k)) (fun k => wAt m c n h (ix2 k j)) (bAt m c n h (ix2 0 j)) = wt m c (row (pt m n h) r) j :=
  congr (congr (congrArg weight (funext fun k => x_held m c n h r k)) (funext fun k => w_held m c n h k j)) (b_held m c n h j)

/-- The block's values are the rows' carried values. -/
theorem pay6_held (n : ℕ) (h : n < (cfgm m).N) (r : Fin 5000) (j : Fin 512) :
    k0_pay6 (F := Ideal) (xAt m c n h) (wAt m c n h) (bAt m c n h) (ix2 r j) = carried m c (row (pt m n h) r) j := by
  unfold carried
  by_cases hj : j.val < 256
  · rw [dif_pos hj]
    exact (pay6_left _ _ _ r ⟨j.val, hj⟩).trans (weight_held m c n h r _)
  · rw [dif_neg hj]
    have e : j = ⟨(⟨j.val - 256, by omega⟩ : Fin 256).val + 256, by dsimp only; omega⟩ := Fin.ext (by dsimp only; omega)
    refine (congrArg (fun q => k0_pay6 (F := Ideal) (xAt m c n h) (wAt m c n h) (bAt m c n h) (ix2 r q)) e).trans ?_
    exact (pay6_right _ _ _ r ⟨j.val - 256, by omega⟩).trans
      (congr (congrArg HMul.hMul (weight_held m c n h r _)) (x_held m c n h r _))

/-- The sum of what block `g`'s rows carry to row `s`. -/
def blockSum (s : ℕ) (j : Fin 512) (g : Fin 20) : EReal :=
  ∑ r : Fin 5000, (if BitVec.ofNat 32 s = argSeg m c (ix1 (row g r)) then carried m c (row g r) j else 0)

/-- What a point gains is its block's sum. -/
theorem gain_held (n : ℕ) (h : n < (cfgm m).N) (s : ℕ) (j : Fin 512) :
    gain (k0_pay6 (F := Ideal) (xAt m c n h) (wAt m c n h) (bAt m c n h)) (k0_pay7 (F := Ideal) (segAt m c n h)) s j
      = blockSum m c s j (pt m n h) := by
  unfold gain blockSum
  refine Finset.sum_congr rfl fun r _ => ?_
  rw [pay7_apply, seg_held, pay6_held]

/-- Every point but the first keeps what the accumulator holds. -/
theorem zcond_later (t : Fin (cfgm m).N) (h : t.val ≠ 0) : ¬ zcond ((cfgm m).grid.coords t) := by
  revert t; exact (by decide : ∀ t : Fin grid0.N, t.val ≠ 0 → ¬ zcond (grid0.coords t))

theorem zstep_entry (t : Fin (cfgm m).N) (f : Acc) (s : Fin 640) (j : Fin 512) :
    entry (zstep (F := Ideal) (zcond ((cfgm m).grid.coords t)) f) s j = if t.val = 0 then 0 else entry f s j := by
  by_cases h : t.val = 0
  · rw [if_pos h]
    unfold entry
    rw [zstep_pos _ f (zcond_first m t h)]
    exact pay8_apply s j
  · rw [if_neg h, zstep_neg _ f (zcond_later m t h)]

/-- `pointAcc_entry` at two words known to be small numbers. -/
theorem pointAcc_entry_words (i : grid0.Coords) {v1 v3 : BitVec 32} {p q : ℕ} (e1 : v1 = BitVec.ofNat 32 p) (e3 : v3 = BitVec.ofNat 32 q)
    (hp : p < 512) (hq : q < 512) (hchk : k0_chk1 v1 v3) (v17 : FVec Ideal S5000x512 .bf16) (v19 : IVec S1x5000 32)
    (hv : ∀ r : Fin 5000, p ≤ (v19 (ix2 0 r)).toNat ∧ (v19 (ix2 0 r)).toNat ≤ q) (f : Acc) (s : Fin 640) (j : Fin 512) :
    entry (pointAcc (F := Ideal) i v1 v3 hchk v17 v19 f) s j = entry (zstep (F := Ideal) (zcond i) f) s j + gain v17 v19 s.val j := by
  subst e1; subst e3
  exact pointAcc_entry i hp hq hchk v17 v19 hv f s j

variable {m}
variable (h : ∀ c, Sorted (argSeg m c))

/-- One point of the accumulator's history. -/
theorem accs_succ (n : ℕ) (hn : n < (cfgm m).N) (s : Fin 640) (j : Fin 512) :
    entry (accs m (tableOk h) c (n + 1) hn) s j
      = (if n = 0 then 0 else entry (accs m (tableOk h) c n (Nat.le_of_lt hn)) s j) + blockSum m c s.val j (pt m n hn) := by
  rw [accs]
  refine (pointAcc_entry_words _ (first_eq (h c) _) (last_eq (h c) _) ((h c).lt _) ((h c).lt _) _ _ _ (fun r => ?_) _ s j).trans ?_
  · rw [pay7_apply, seg_held, blk_eq]
    exact ⟨(h c).mono _ _ (Fin.mk_le_mk.2 (Nat.add_le_add_left (Nat.zero_le _) _)),
      (h c).mono _ _ (Fin.mk_le_mk.2 (Nat.add_le_add_left (Nat.le_of_lt_succ r.isLt) _))⟩
  · rw [zstep_entry, gain_held]

/-- The accumulator before point `n + 1`. -/
theorem accs_sum (n : ℕ) (hn : n < (cfgm m).N) (s : Fin 640) (j : Fin 512) :
    entry (accs m (tableOk h) c (n + 1) hn) s j
      = ∑ g ∈ Finset.univ.filter (fun g : Fin 20 => g.val ≤ n), blockSum m c s.val j g := by
  induction n with
  | zero =>
    rw [accs_succ c h, if_pos rfl, zero_add,
      show Finset.univ.filter (fun g : Fin 20 => g.val ≤ 0) = {(0 : Fin 20)} from by decide, Finset.sum_singleton]
    rfl
  | succ n ih =>
    rw [accs_succ c h, if_neg (Nat.succ_ne_zero n), ih (Nat.lt_of_succ_lt hn)]
    have e : Finset.univ.filter (fun g : Fin 20 => g.val ≤ n + 1) = insert (pt m (n + 1) hn) (Finset.univ.filter (fun g : Fin 20 => g.val ≤ n)) := by
      ext g
      rw [Finset.mem_insert, Finset.mem_filter, Finset.mem_filter, Fin.ext_iff, show (pt m (n + 1) hn).val = n + 1 from rfl]
      simp only [Finset.mem_univ, true_and]
      omega
    rw [e, Finset.sum_insert, add_comm]
    rw [Finset.mem_filter]
    exact fun hh => absurd hh.2 (Nat.not_le.2 (Nat.lt_succ_self n))

/-- A sum over blocks of a sum over each block's rows is the sum over all rows. -/
theorem sum_rows (f : Fin 100000 → EReal) : ∑ g : Fin 20, ∑ r : Fin 5000, f (row g r) = ∑ r : Fin 100000, f r := by
  rw [← Fintype.sum_prod_type']
  refine Fintype.sum_equiv (finProdFinEquiv : Fin 20 × Fin 5000 ≃ Fin 100000) _ _ fun x => congrArg f (Fin.ext ?_)
  show x.1.val * 5000 + x.2.val = x.2.val + 5000 * x.1.val
  omega

/-- After the last point. -/
theorem accs_last (hn : 19 < (cfgm m).N) (s : Fin 640) (j : Fin 512) :
    entry (accs m (tableOk h) c 20 hn) s j
      = ∑ r : Fin 100000, (if BitVec.ofNat 32 s.val = argSeg m c (ix1 r) then carried m c r j else 0) := by
  rw [accs_sum c h 19 hn, show Finset.univ.filter (fun g : Fin 20 => g.val ≤ 19) = Finset.univ from by decide]
  unfold blockSum
  exact sum_rows fun r => if BitVec.ofNat 32 s.val = argSeg m c (ix1 r) then carried m c r j else 0

end Cert.KernelIdeal.Hand
end
-- ==== Proof.Result.lean ====
module

public import proofs.«01_k».proof.Proof.Total
/-! # The result's array

The last point divides the accumulator's right half by its left and is the one point written back, its block the whole array. -/
@[expose] public section
set_option maxRecDepth 16384
noncomputable section
namespace Cert.KernelIdeal.Hand
open Cert.KernelIdeal Cert.KernelIdeal.Gen
open Idealize.ShloMosaic Idealize.ShloMosaic.TcCoe
open Cert.Segments
attribute [local instance] Cert.KernelIdeal.Gen.facts
variable {m : (ℓ : Loc nD τ sig) → Buf (Elt Ideal) ℓ} (c : Dev nD)

/-- The output at an index, from the accumulator's two halves. -/
theorem outOf_entry (f : Acc) (s : Fin 512) (j : Fin 256) :
    outOf (F := Ideal) f (ix2 s j)
      = if 0 < entry f ⟨s.val, by omega⟩ ⟨j.val, by omega⟩
        then Ideal.div (entry f ⟨s.val, by omega⟩ ⟨j.val + 256, by omega⟩) (entry f ⟨s.val, by omega⟩ ⟨j.val, by omega⟩) else 0 := by
  unfold outOf
  have e : ∀ (o : ℕ) (inb : ∀ a, (![0, o] : Fin 2 → ℕ) a + S512x256.size a ≤ S640x512.size a) (ho : o + j.val < 512),
      View.readAt (Elt Ideal) scM.view (Rect.unit (s := S640x512) ![0, o] S512x256.size inb).toLoadRect f (ix2 s j)
        = entry f ⟨s.val, by omega⟩ ⟨j.val + o, by omega⟩ := fun o inb ho => by
    refine congrArg f (funext fun d => Fin.ext ?_)
    match d with
    | 0 =>
      show 0 + 1 * s.val = s.val
      omega
    | 1 =>
      show o + 1 * j.val = j.val + o
      omega
  refine (pay5_apply _ _ s j).trans ?_
  rw [e 0 _ (by omega), e 256 _ (by omega)]
  rfl

variable (h : ∀ c, Sorted (argSeg m c))

/-- The output's block starts at the origin. -/
theorem place_out (t : Fin (cfgm m).N) (a) : ((cfgm m).win 4).index t a = 0 := by
  show cc0_transform_4 (grid0.coords t) a = 0
  rw [show cc0_transform_4 (grid0.coords t) = ![0, 0] from rfl]
  revert a
  show ∀ a : Fin 2, (![0, 0] : Fin 2 → ℕ) a = 0
  decide

/-- A coordinate inside the array is inside the block at the origin. -/
theorem at_origin (o n x : ℕ) (ho : o = 0) (hx : x < n) : o * n ≤ x ∧ x < o * n + n := by
  subst ho
  omega

/-- The one block written back is the whole array, so the array ends as what the last point left in the buffer. -/
theorem arrAt_after (dat : Pipeline.Dat τ (Elt Ideal) Unit ℕ (UR sig nD τ) ℕ (cfgm m) c) (hn : 19 < (cfgm m).N) :
    dat.arrAt 4 (cfgm m).N = dat.after 4 ⟨19, hn⟩ := by
  refine Pipeline.Dat.arrAt_eq_of_cover dat 4 (dat.after 4 ⟨19, hn⟩) (fun t ht => ?_) fun i =>
    ⟨⟨19, hn⟩, (flush4 m ⟨19, hn⟩).trans (decide_eq_true rfl), ?_⟩
  · rw [flush4] at ht
    obtain rfl : t = ⟨19, hn⟩ := Fin.ext (of_decide_eq_true ht)
    show ((cfgm m).win 4).cut ((cfgm m).grid.coords ⟨19, hn⟩) (dat.after 4 ⟨19, hn⟩) = _
    generalize dat.after 4 ⟨19, hn⟩ = G
    funext j
    refine congrArg G (funext fun d => Fin.ext ?_)
    show (j d).val = ((cfgm m).win 4).index ⟨19, hn⟩ d * ((cfgm m).win 4).size d + 1 * (j d).val
    rw [place_out]
    omega
  · refine (congrArg (i ∈ ·) (View.set_slice_whole main_v11 _)).mpr ((Rect.mem_set_unit).mpr fun a => ?_)
    exact at_origin _ _ _ (place_out _ _) (i a).isLt

/-- The sum of the weights of the rows that carry a segment's number. -/
def sumW (m : (ℓ : Loc nD τ sig) → Buf (Elt Ideal) ℓ) (s : ℕ) (j : Fin 256) : EReal :=
  ∑ r : Fin 100000, (if BitVec.ofNat 32 s = argSeg m c (ix1 r) then wt m c r j else 0)
/-- The sum of their weighted entries. -/
def sumWX (m : (ℓ : Loc nD τ sig) → Buf (Elt Ideal) ℓ) (s : ℕ) (j : Fin 256) : EReal :=
  ∑ r : Fin 100000, (if BitVec.ofNat 32 s = argSeg m c (ix1 r) then wt m c r j * argX m c (ix2 r j) else 0)

/-- The output from the accumulator after the last point. -/
theorem last_entry (hn : 19 < (cfgm m).N) (s : Fin 512) (j : Fin 256) :
    outOf (F := Ideal) (accs m (tableOk h) c 20 hn) (ix2 s j)
      = if 0 < sumW c m s.val j then Ideal.div (sumWX c m s.val j) (sumW c m s.val j) else 0 := by
  have el : ∀ r, carried m c r ⟨j.val, by omega⟩ = wt m c r j := fun r => dif_pos j.isLt
  have er : ∀ r, carried m c r ⟨j.val + 256, by omega⟩ = wt m c r j * argX m c (ix2 r j) := fun r => by
    unfold carried
    rw [dif_neg (by dsimp only; omega)]
    simp only [Nat.add_sub_cancel]
  rw [outOf_entry, accs_last c h hn, accs_last c h hn]
  simp only [el, er]
  rfl

/-- The result, an entry from its row's two sums. -/
def outcome (m : (ℓ : Loc nD τ sig) → Buf (Elt Ideal) ℓ) (i : S512x256.Idx) : EReal :=
  if 0 < sumW c m (i 0).val (i 1) then Ideal.div (sumWX c m (i 0).val (i 1)) (sumW c m (i 0).val (i 1)) else 0

/-- After the last point the output's buffer holds the result. -/
theorem last_outcome (n : ℕ) (hn : n < (cfgm m).N) (e : n = 19) :
    outOf (F := Ideal) (accs m (tableOk h) c (n + 1) hn) = outcome c m := by
  subst e
  funext i
  rw [ValueIdx.eq_ix2 i]
  exact last_entry c h hn (i 0) (i 1)

/-- The result's array at the end of a run. -/
theorem final_array (hn : 19 < (cfgm m).N) : (dats m (tableOk h) 0 c).arrAt 4 (cfgm m).N = outcome c m := by
  exact (arrAt_after c _ hn).trans ((after_out m (tableOk h) c ⟨19, hn⟩).trans (last_outcome c h 19 hn rfl))
end Cert.KernelIdeal.Hand
end
-- ==== Proof.Reference.lean ====
module

public import proofs.«01_k».proof.Proof.Gen.ReferenceIdeal.Read
public import proofs.«01_k».proof.Proof.Sorted
public import proofs.«01_k».proof.Proof.Value
public import Idealize.ShloMosaic.Lib.Routing.OpsPair
public import Idealize.ShloMosaic.Lib.Routing.Ops
/-! # What the reference computes

Its segment sums are scatters of whole rows, and its normaliser is read back by a gather of whole rows. Each is read at an
index, then the result. -/
@[expose] public section
set_option maxRecDepth 16384
noncomputable section
namespace Cert.ReferenceIdeal.Hand
open Cert.ReferenceIdeal Cert.ReferenceIdeal.Gen Cert.ReferenceIdeal.Read
open Idealize.ShloMosaic
open Cert.Segments
open Cert.KernelIdeal.Hand (weight)
attribute [local instance] Cert.ReferenceIdeal.Gen.facts

local notation "dS" => scatter_S512x256_S100000x1_S100000x256_1_0_0_1

/-- Row `r` of the updates reads the index word of row `r`. -/
theorem index_read (r : Fin 100000) (b : Fin 256) (k) : (dS).siIdx (ix2 r b) k = ix2 r (0 : Fin 1) := by
  funext a
  apply Fin.ext
  match a with
  | ⟨0, _⟩ => rfl
  | ⟨1, _⟩ => exact Nat.lt_one_iff.mp k.isLt

/-- An update entry lands in the row its index word names, in its own column. -/
theorem lands (idx : IVec S100000x1 32) (r : Fin 100000) (b : Fin 256) (s : Fin 512) (j : Fin 256) :
    (dS).resultIdx? (ix2 r b) idx = some (ix2 s j) ↔ (idx (ix2 r (0 : Fin 1))).toInt = (s.val : ℤ) ∧ b = j := by
  refine (Routing.resultIdx?_ix2 (R := 512) (C := 256) dS (ix2 r b) idx s j).trans ?_
  have h0 : (dS).start (ix2 r b) idx 0 = (idx (ix2 r (0 : Fin 1))).toInt := by
    unfold ScatterDims.start
    refine (dif_pos (show (0 : Fin 2) ∈ ([0] : List (Fin 2)) by decide)).trans ?_
    rw [index_read]
  have h1 : (dS).start (ix2 r b) idx 1 = 0 := by
    unfold ScatterDims.start
    exact dif_neg (show (1 : Fin 2) ∉ ([0] : List (Fin 2)) by decide)
  have w0 : (dS).window (ix2 r b) 0 = 0 := rfl
  have w1 : (dS).window (ix2 r b) 1 = b.val := rfl
  refine (and_congr (Eq.congr_left (congr (congrArg HAdd.hAdd h0) (congrArg Nat.cast w0))) (Eq.congr_left (congr (congrArg HAdd.hAdd h1) (congrArg Nat.cast w1)))).trans ?_
  rw [Fin.ext_iff]
  omega

/-- A scatter of rows, at an entry: what was there, and the sum over the rows whose word names its row. -/
theorem scatter_rows (x : FVec Ideal S512x256 .f32) (idx : IVec S100000x1 32) (u : FVec Ideal S100000x256 .f32) (s : Fin 512) (j : Fin 256) :
    Host.scatterAdd (F := Ideal) dS x idx u (ix2 s j)
      = x (ix2 s j) + ∑ r : Fin 100000, (if (idx (ix2 r (0 : Fin 1))).toInt = (s.val : ℤ) then u (ix2 r j) else 0) := by
  refine congrArg (x (ix2 s j) + ·) ?_
  rw [← Finset.sum_filter]
  have hmem : ∀ r b, ix2 r b ∈ Finset.univ.filter (fun q => (dS).resultIdx? q idx = some (ix2 s j))
      ↔ (idx (ix2 r (0 : Fin 1))).toInt = (s.val : ℤ) ∧ b = j := fun r b => by
    rw [Finset.mem_filter, lands]
    exact ⟨fun h => h.2, fun h => ⟨Finset.mem_univ _, h⟩⟩
  have back : ∀ q ∈ Finset.univ.filter (fun q => (dS).resultIdx? q idx = some (ix2 s j)),
      (idx (ix2 (q 0) (0 : Fin 1))).toInt = (s.val : ℤ) ∧ ix2 (q 0) j = q := fun q hq => by
    rw [ValueIdx.eq_ix2 q] at hq
    obtain ⟨h1, h2⟩ := (hmem _ _).mp hq
    exact ⟨h1, (congrArg (ix2 (q 0)) h2.symm).trans (ValueIdx.eq_ix2 q).symm⟩
  exact Finset.sum_bij' (fun q _ => q 0) (fun r _ => ix2 r j) (fun q hq => Finset.mem_filter.mpr ⟨Finset.mem_univ _, (back q hq).1⟩)
    (fun r hr => (hmem r j).mpr ⟨(Finset.mem_filter.mp hr).2, rfl⟩) (fun q hq => (back q hq).2) (fun r hr => rfl)
    (fun q hq => congrArg u (back q hq).2.symm)

section
variable (x : FVec Ideal S100000x256 .f32) (seg : IVec Rows 32) (w : FVec Ideal S256x256 .f32) (b : FVec Ideal S256 .f32)

/-- The weight of row `r` in column `j`. -/
def wtOf (r : Fin 100000) (j : Fin 256) : EReal := weight (fun k => x (ix2 r k)) (fun k => w (ix2 k j)) (b (ix1 j))

/-- The reference's exponentials are the weights. -/
theorem v5_at (r : Fin 100000) (j : Fin 256) : val_main_v5 (F := Ideal) x w b (ix2 r j) = wtOf x w b r j := by
  unfold val_main_v5 val_main_v4 val_main_v3 val_main_v2 val_main_v1 val_main_v0 wtOf weight
  pointwise

/-- A row's number, read signed, is `s` exactly when its word is that of `s`. -/
theorem carries (h : Sorted seg) (r : Fin 100000) (s : Fin 512) :
    (seg (ix1 r)).toInt = (s.val : ℤ) ↔ BitVec.ofNat 32 s.val = seg (ix1 r) := by
  have hn := h.lt r
  have hi : (seg (ix1 r)).toInt = num seg r := BitVec.toInt_eq_toNat_of_lt (by unfold num at hn; omega)
  rw [hi, h.word r]
  constructor
  · intro e
    rw [show num seg r = s.val by exact_mod_cast e]
  · intro e
    have := congrArg BitVec.toNat e
    rw [BitVec.toNat_ofNat, BitVec.toNat_ofNat, Nat.mod_eq_of_lt (by omega), Nat.mod_eq_of_lt (by omega)] at this
    exact_mod_cast this.symm

/-- The normaliser of segment `s` in column `j`. -/
def norm (s : ℕ) (j : Fin 256) : EReal := ∑ r : Fin 100000, (if BitVec.ofNat 32 s = seg (ix1 r) then wtOf x w b r j else 0)

/-- The segment sums start from zero. -/
theorem zero_at (i : S512x256.Idx) : val_main_v6 (F := Ideal) i = 0 := by
  rw [val_main_v6_apply, val_main_cst_apply]
  exact Ideal.ofBits_zero _

/-- The first segment sum is the normaliser. -/
theorem v8_at (h : Sorted seg) (s : Fin 512) (j : Fin 256) : val_main_v8 (F := Ideal) x seg w b (ix2 s j) = norm x seg w b s.val j := by
  unfold val_main_v8 norm
  rw [scatter_rows, zero_at, zero_add]
  refine Finset.sum_congr rfl fun r _ => ?_
  rw [v5_at, val_main_v7_apply, show idx_main_v7 (ix2 r (0 : Fin 1)) = ix1 r from funext fun a => match a with | ⟨0, _⟩ => rfl]
  exact if_congr (carries seg h r s) rfl rfl

/-- The row numbers that the normaliser is read back by. -/
theorem v14_at (h : Sorted seg) (r : Fin 100000) : val_main_v14 (F := Ideal) seg (ix2 r (0 : Fin 1)) = BitVec.ofNat 32 (num seg r) := by
  rw [val_main_v14_apply, val_main_v13_apply, val_main_v10_apply, val_main_v9_apply, val_main_c_apply]
  have e : idx_main_v14 (ix2 r (0 : Fin 1)) = ix1 r := funext fun a => match a with | ⟨0, _⟩ => rfl
  rw [e, ← h.word r]
  exact Routing.wrap_of_lt _ _ (by have := h.lt r; unfold num at this; omega)

/-- The normaliser read back is that of the row's own segment. -/
theorem v15_at (h : Sorted seg) (r : Fin 100000) (j : Fin 256) :
    val_main_v15 (F := Ideal) x seg w b (ix2 r j) = norm x seg w b (num seg r) j := by
  refine (Routing.gather_row gather_S512x256_S100000x1_S100000x256_1_0_n_n_0_1_1256 rfl rfl rfl rfl rfl _ _ r j ⟨num seg r, h.lt r⟩ (v14_at seg h r)
    (by decide)).trans ?_
  exact v8_at x seg w b h _ j

/-- The reference's result at an entry: over the rows that carry its row's number, the weight divided by the normaliser, times the entry. -/
theorem v20_at (h : Sorted seg) (s : Fin 512) (j : Fin 256) :
    val_main_v20 (F := Ideal) x seg w b (ix2 s j)
      = ∑ r : Fin 100000, (if BitVec.ofNat 32 s.val = seg (ix1 r) then Ideal.div (wtOf x w b r j) (norm x seg w b s.val j) * x (ix2 r j) else 0) := by
  unfold val_main_v20
  rw [scatter_rows]
  rw [show val_main_v18 (F := Ideal) (ix2 s j) = 0 from zero_at _, zero_add]
  refine Finset.sum_congr rfl fun r _ => ?_
  rw [val_main_v19_apply, show idx_main_v19 (ix2 r (0 : Fin 1)) = ix1 r from funext fun a => match a with | ⟨0, _⟩ => rfl]
  refine (if_congr (carries seg h r s) rfl rfl).trans ?_
  by_cases hs : BitVec.ofNat 32 s.val = seg (ix1 r)
  · rw [if_pos hs, if_pos hs, val_main_v17_apply, val_main_v16_apply, v5_at, v15_at x seg w b h]
    have e : num seg r = s.val := by
      have := congrArg BitVec.toNat hs
      rw [BitVec.toNat_ofNat, Nat.mod_eq_of_lt (by omega)] at this
      exact this.symm
    rw [e]
    rfl
  · rw [if_neg hs, if_neg hs]
end
end Cert.ReferenceIdeal.Hand
end
-- ==== Proof.Average.lean ====
module

public import Idealize.ShloMosaic.PureOps.Ideal.Laws
public import Idealize.ShloMosaic.Lib.ValueIdx
/-! # Dividing once or term by term

A sum of weights that are positive reals is a positive real as soon as it has a term. Dividing every weighted entry by it and
adding up is then the same as adding up and dividing once, whatever the entries are, infinite ones included. -/
@[expose] public section
noncomputable section
namespace Cert.Average
open Idealize.ShloMosaic

/-- Multiplying by a positive real distributes over a finite sum of extended reals. -/
theorem mul_sum {ι : Type} (s : Finset ι) (f : ι → EReal) {c : ℝ} (hc : 0 < c) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc.le) (EReal.coe_ne_top c) _ _

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weighted average over the rows that satisfy `p`: the row-by-row division is the one division, and no row means zero. -/
theorem average {ι : Type} [Fintype ι] (p : ι → Prop) [DecidablePred p] (a x : ι → EReal) (ha : ∀ i, ∃ q : ℝ, 0 < q ∧ a i = (q : EReal)) :
    (∑ i, (if p i then Ideal.div (a i) (∑ k, (if p k then a k else 0)) * x i else 0))
      = if 0 < ∑ k, (if p k then a k else 0) then Ideal.div (∑ k, (if p k then a k * x k else 0)) (∑ k, (if p k then a k else 0)) else 0 := by
  choose q hq hqa using ha
  obtain rfl : a = fun i => (q i : EReal) := funext hqa
  have hA : (∑ k, (if p k then (q k : EReal) else 0)) = ((∑ k ∈ Finset.univ.filter p, q k : ℝ) : EReal) := by
    rw [← Finset.sum_filter, coe_sum]
  rw [hA]
  by_cases hp : ∃ i, p i
  · obtain ⟨i, hi⟩ := hp
    have pos : 0 < ∑ k ∈ Finset.univ.filter p, q k := Finset.sum_pos (fun k _ => hq k) ⟨i, Finset.mem_filter.mpr ⟨Finset.mem_univ i, hi⟩⟩
    generalize (∑ k ∈ Finset.univ.filter p, q k) = A at pos ⊢
    have hinv : 0 < 1 / A := one_div_pos.mpr pos
    rw [if_pos (EReal.coe_pos.mpr pos), Ideal.div_coe pos.ne', mul_comm, mul_sum _ _ hinv]
    refine Finset.sum_congr rfl fun k _ => ?_
    by_cases hk : p k
    · rw [if_pos hk, if_pos hk, Ideal.div_coe pos.ne', mul_comm (q k : EReal), mul_assoc]
    · rw [if_neg hk, if_neg hk, mul_zero]
  · have none : ∀ i, ¬ p i := fun i hi => hp ⟨i, hi⟩
    have e : Finset.univ.filter p = ∅ := Finset.filter_eq_empty_iff.mpr fun i _ => none i
    rw [e, Finset.sum_empty, if_neg (by simp)]
    exact Finset.sum_eq_zero fun i _ => if_neg (none i)
end Cert.Average
end
-- ==== Proof.Equal.lean ====
module

public import proofs.«01_k».proof.Proof.Result
public import proofs.«01_k».proof.Proof.Reference
public import proofs.«01_k».proof.Proof.Average
/-! # The two results are one

The kernel divides a row's sum of weighted entries by its sum of weights. The reference divides each weight by the same sum
first. The weights are positive reals, so the two agree at every entry, also where the inputs are infinite. -/
@[expose] public section
set_option maxRecDepth 16384
noncomputable section
namespace Cert.Equal
open Idealize.ShloMosaic Idealize.ShloMosaic.TcCoe
open Cert.Segments Cert.KernelIdeal.Hand
attribute [local instance] Cert.KernelIdeal.Gen.facts Cert.ReferenceIdeal.Gen.facts

/-- A weight is a positive real, whatever it is the weight of. -/
theorem weight_pos (x w : Fin 256 → EReal) (b : EReal) : ∃ q : ℝ, 0 < q ∧ weight x w b = (q : EReal) := by
  unfold weight
  generalize (∑ k : Fin 256, x k * w k + b) = z
  have ht : ∃ t : ℝ, Ideal.tanh z = (t : EReal) := by
    induction z using EReal.rec with
    | bot => exact ⟨-1, by rw [Ideal.tanh_bot]; simp⟩
    | coe r => exact ⟨Real.tanh r, Ideal.tanh_coe r⟩
    | top => exact ⟨1, by rw [Ideal.tanh_top]; simp⟩
  obtain ⟨t, ht⟩ := ht
  exact ⟨Real.exp t, Real.exp_pos t, by rw [ht, Ideal.exp_coe]⟩

/-- The reference's result over the kernel's arguments is the kernel's result. -/
theorem results (m : (ℓ : Loc Cert.KernelIdeal.nD Cert.KernelIdeal.τ Cert.KernelIdeal.sig) → Buf (Elt Ideal) ℓ) (c : Dev Cert.KernelIdeal.nD)
    (h : Sorted (argSeg m c)) :
    Cert.ReferenceIdeal.Read.val_main_v20 (F := Ideal) (argX m c) (argSeg m c) (argW m c) (argB m c) = outcome c m := by
  funext i
  rw [ValueIdx.eq_ix2 i]
  refine (Cert.ReferenceIdeal.Hand.v20_at (argX m c) (argSeg m c) (argW m c) (argB m c) h (i 0) (i 1)).trans ?_
  exact Cert.Average.average (fun r => BitVec.ofNat 32 (i 0).val = argSeg m c (ix1 r)) (fun r => wt m c r (i 1)) (fun r => argX m c (ix2 r (i 1)))
    (fun r => weight_pos _ _ _)
end Cert.Equal
end
-- ==== Proof.lean ====
/- The proof: the run of the kernel and of its idealization, the run of the reference, and the equality of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sorted_segments
public import proofs.«01_k».proof.Proof.Frame
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_sorted_segments.Gen.facts

/-- The kernel at bits: the idealization's program at bits. -/
theorem kernel_quiet : Cert.quiescent_Kernel := fun m g h => by
  rw [show Cert.Kernel.defs (F := Bits) = Cert.KernelIdeal.defs (F := Bits) from defs_same,
    show Cert.Kernel.main (F := Bits) = Cert.KernelIdeal.main (F := Bits) from main_same]
  exact (θ_run (Cert.KernelIdeal.defs (F := Bits)) _ _).mono (fun _ hr => ⟨fun c => (hr.1 c).1, hr.2⟩)
    (Cert.KernelIdeal.Hand.run_kept (F := Bits) m (fun c => Cert.Segments.sorted_of_pre _ _ _ _ (h c)) g)

/-- The idealization. -/
theorem ideal_quiet : Cert.quiescent_KernelIdeal := fun m g h =>
  (θ_run (Cert.KernelIdeal.defs (F := Ideal)) _ _).mono (fun _ hr => ⟨fun c => (hr.1 c).1, hr.2⟩)
    (Cert.KernelIdeal.Hand.run_kept (F := Ideal) m (fun c => Cert.Segments.sorted_of_pre _ _ _ _ (h c)) g)

/-- The reference, which has no semaphore. -/
theorem reference_quiet : Cert.quiescent_ReferenceIdeal := fun m g _ =>
  (θ_run (Cert.ReferenceIdeal.defs (F := Ideal)) _ _).mono (fun r hr => ⟨fun c => (hr c).2, sem_eq_zero_of_no_sems (by decide) r.2⟩)
    (Cert.ReferenceIdeal.Value.run (F := Ideal) m g)

/-- The kernel's result is the reference's, over the extended reals. -/
theorem same_result : Cert.algebraic_KernelIdeal_ReferenceIdeal := fun m g m' g' hpre hargs => by
  have hs : ∀ c, Cert.Segments.Sorted (Cert.KernelIdeal.Hand.argSeg m c) := fun c => Cert.Segments.sorted_of_pre _ _ _ _ (hpre c)
  refine ⟨fun c => Cert.KernelIdeal.Hand.outcome c m, ?_, ?_⟩
  · exact (θ_run (Cert.KernelIdeal.defs (F := Ideal)) _ _).mono
      (fun _ hr c => ⟨(hr.1 c).2.trans (Cert.KernelIdeal.Hand.final_array c hs (Nat.lt_of_lt_of_eq (by decide) Cert.KernelIdeal.Gen.N_0.symm)), (hr.1 c).1⟩)
      (Cert.KernelIdeal.Hand.run_kept (F := Ideal) m hs g)
  · refine (θ_run (Cert.ReferenceIdeal.defs (F := Ideal)) _ _).mono (fun r hr c => ⟨(hr c).1.trans ?_, (hr c).2⟩)
      (Cert.ReferenceIdeal.Value.run (F := Ideal) m' g')
    obtain ⟨h0, h1, h2, h3⟩ := hargs c
    rw [Cert.ReferenceIdeal.Read.val_main_v20_eq, h0, h1, h2, h3]
    exact Cert.Equal.results m c (hs c)

/-- The claims. -/
theorem claim : Cert.Claim := ⟨Cert.Kernel.Gen.facts, Cert.KernelIdeal.Gen.facts, Cert.ReferenceIdeal.Gen.facts, Cert.Pre_sorted_segments.Gen.facts,
  kernel_quiet, ideal_quiet, reference_quiet, fun m g _ => reference_quiet m g trivial, trivial, same_result⟩

end Cert.Proof

end
